-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)

variable [Facts]

def fn {F : FTy → Type} [FloatOps F] (main_arg0 : FVec F S512x1024 .f32) (main_arg1 : FVec F S1024x16384 .f32) : IVec S512x1024 1 × IVec S1024x16384 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  (main_v2, main_v5)
-- ==== Kernel.lean ====
abbrev S512x1024 : Shape := ⟨2, ![512, 1024]⟩
abbrev S1024x8192 : Shape := ⟨2, ![1024, 8192]⟩
abbrev S512x16384 : Shape := ⟨2, ![512, 16384]⟩
abbrev S512x8192 : Shape := ⟨2, ![512, 8192]⟩
abbrev S2x1024x1024 : Shape := ⟨3, ![2, 1024, 1024]⟩
abbrev S2x512x1024 : Shape := ⟨3, ![2, 512, 1024]⟩
abbrev S512x128 : Shape := ⟨2, ![512, 128]⟩
abbrev S2 : Shape := ⟨1, ![2]⟩
abbrev S8 : Shape := ⟨1, ![8]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .f32⟩
  | .local _ .vmem, ⟨0, _⟩ => ⟨S512x1024, .f32⟩
  | .local _ .vmem, ⟨1, _⟩ => ⟨S512x8192, .bf16⟩
  | .local _ .vmem, ⟨2, _⟩ => ⟨S512x8192, .bf16⟩
  | .local _ .vmem, ⟨3, _⟩ => ⟨S2x1024x1024, .f32⟩
  | .local _ .vmem, ⟨4, _⟩ => ⟨S2x512x1024, .f32⟩
  | .local _ .vmem, ⟨5, _⟩ => ⟨S2x512x1024, .f32⟩
  | .local _ .vmem, ⟨6, _⟩ => ⟨S512x128, .f32⟩
  | .local _ .vmem, ⟨7, _⟩ => ⟨S512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_cond1 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v17 : BitVec 1 := Scalar.cmpi .eq v5 c0_i32_9
  let v18 : BitVec 32 := Scalar.extui v17
  let c0_i32_10 : BitVec 32 := 0#32
  let v19 : BitVec 1 := Scalar.cmpi .ne v18 c0_i32_10
  v19

def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v54 : BitVec 32 := Scalar.muli v2 c4_i32_40
  let v55 : BitVec 32 := Scalar.addi c0_i32_41 v54
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v56 : BitVec 32 := Scalar.muli v9 c2_i32_42
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v58 : BitVec 32 := Scalar.muli v8 c1_i32_43
  let v59 : BitVec 32 := Scalar.addi v57 v58
  v59.toNat
def k0_dev3 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v270 : BitVec 32 := Scalar.muli v2 c4_i32_172
  let v271 : BitVec 32 := Scalar.addi c0_i32_173 v270
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_174 : BitVec 32 := 2#32
  let v272 : BitVec 32 := Scalar.muli v9 c2_i32_174
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v274 : BitVec 32 := Scalar.muli v8 c1_i32_175
  let v275 : BitVec 32 := Scalar.addi v273 v274
  v275.toNat
def k0_dev4 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v276 : BitVec 32 := Scalar.muli v2 c4_i32_178
  let v277 : BitVec 32 := Scalar.addi c0_i32_179 v276
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_180 : BitVec 32 := 2#32
  let v278 : BitVec 32 := Scalar.muli v9 c2_i32_180
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v280 : BitVec 32 := Scalar.muli v8 c1_i32_181
  let v281 : BitVec 32 := Scalar.addi v279 v280
  v281.toNat
def k0_dev5 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v288 : BitVec 32 := Scalar.muli v2 c4_i32_188
  let v289 : BitVec 32 := Scalar.addi c0_i32_189 v288
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_190 : BitVec 32 := 2#32
  let v290 : BitVec 32 := Scalar.muli v9 c2_i32_190
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v292 : BitVec 32 := Scalar.muli v8 c1_i32_191
  let v293 : BitVec 32 := Scalar.addi v291 v292
  v293.toNat
def k0_dev6 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v300 : BitVec 32 := Scalar.muli v2 c4_i32_197
  let v301 : BitVec 32 := Scalar.addi c0_i32_198 v300
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_199 : BitVec 32 := 2#32
  let v302 : BitVec 32 := Scalar.muli v9 c2_i32_199
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v304 : BitVec 32 := Scalar.muli v8 c1_i32_200
  let v305 : BitVec 32 := Scalar.addi v303 v304
  v305.toNat
def k0_dev7 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v312 : BitVec 32 := Scalar.muli v2 c4_i32_207
  let v313 : BitVec 32 := Scalar.addi c0_i32_208 v312
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_209 : BitVec 32 := 2#32
  let v314 : BitVec 32 := Scalar.muli v9 c2_i32_209
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v316 : BitVec 32 := Scalar.muli v8 c1_i32_210
  let v317 : BitVec 32 := Scalar.addi v315 v316
  v317.toNat
def k0_dev8 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v324 : BitVec 32 := Scalar.muli v2 c4_i32_216
  let v325 : BitVec 32 := Scalar.addi c0_i32_217 v324
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_218 : BitVec 32 := 2#32
  let v326 : BitVec 32 := Scalar.muli v9 c2_i32_218
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v328 : BitVec 32 := Scalar.muli v8 c1_i32_219
  let v329 : BitVec 32 := Scalar.addi v327 v328
  v329.toNat
def k0_dev9 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v336 : BitVec 32 := Scalar.muli v2 c4_i32_225
  let v337 : BitVec 32 := Scalar.addi c0_i32_226 v336
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_227 : BitVec 32 := 2#32
  let v338 : BitVec 32 := Scalar.muli v9 c2_i32_227
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v340 : BitVec 32 := Scalar.muli v8 c1_i32_228
  let v341 : BitVec 32 := Scalar.addi v339 v340
  v341.toNat
def k0_dev10 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v348 : BitVec 32 := Scalar.muli v2 c4_i32_234
  let v349 : BitVec 32 := Scalar.addi c0_i32_235 v348
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_236 : BitVec 32 := 2#32
  let v350 : BitVec 32 := Scalar.muli v9 c2_i32_236
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v352 : BitVec 32 := Scalar.muli v8 c1_i32_237
  let v353 : BitVec 32 := Scalar.addi v351 v352
  v353.toNat
def k0_cond2 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 1 := Scalar.cmpi .eq v5 c1_i32_11
  let v21 : BitVec 32 := Scalar.extui v20
  let c0_i32_12 : BitVec 32 := 0#32
  let v22 : BitVec 1 := Scalar.cmpi .ne v21 c0_i32_12
  v22

def k0_dev11 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v54 : BitVec 32 := Scalar.muli v2 c4_i32_40
  let v55 : BitVec 32 := Scalar.addi c0_i32_41 v54
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v56 : BitVec 32 := Scalar.muli v9 c2_i32_42
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v58 : BitVec 32 := Scalar.muli v8 c1_i32_43
  let v59 : BitVec 32 := Scalar.addi v57 v58
  v59.toNat
def k0_dev12 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v270 : BitVec 32 := Scalar.muli v2 c4_i32_172
  let v271 : BitVec 32 := Scalar.addi c0_i32_173 v270
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_174 : BitVec 32 := 2#32
  let v272 : BitVec 32 := Scalar.muli v9 c2_i32_174
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v274 : BitVec 32 := Scalar.muli v8 c1_i32_175
  let v275 : BitVec 32 := Scalar.addi v273 v274
  v275.toNat
def k0_dev13 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v276 : BitVec 32 := Scalar.muli v2 c4_i32_178
  let v277 : BitVec 32 := Scalar.addi c0_i32_179 v276
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_180 : BitVec 32 := 2#32
  let v278 : BitVec 32 := Scalar.muli v9 c2_i32_180
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v280 : BitVec 32 := Scalar.muli v8 c1_i32_181
  let v281 : BitVec 32 := Scalar.addi v279 v280
  v281.toNat
def k0_dev14 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v288 : BitVec 32 := Scalar.muli v2 c4_i32_188
  let v289 : BitVec 32 := Scalar.addi c0_i32_189 v288
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_190 : BitVec 32 := 2#32
  let v290 : BitVec 32 := Scalar.muli v9 c2_i32_190
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v292 : BitVec 32 := Scalar.muli v8 c1_i32_191
  let v293 : BitVec 32 := Scalar.addi v291 v292
  v293.toNat
def k0_dev15 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v300 : BitVec 32 := Scalar.muli v2 c4_i32_197
  let v301 : BitVec 32 := Scalar.addi c0_i32_198 v300
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_199 : BitVec 32 := 2#32
  let v302 : BitVec 32 := Scalar.muli v9 c2_i32_199
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v304 : BitVec 32 := Scalar.muli v8 c1_i32_200
  let v305 : BitVec 32 := Scalar.addi v303 v304
  v305.toNat
def k0_dev16 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v312 : BitVec 32 := Scalar.muli v2 c4_i32_207
  let v313 : BitVec 32 := Scalar.addi c0_i32_208 v312
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_209 : BitVec 32 := 2#32
  let v314 : BitVec 32 := Scalar.muli v9 c2_i32_209
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v316 : BitVec 32 := Scalar.muli v8 c1_i32_210
  let v317 : BitVec 32 := Scalar.addi v315 v316
  v317.toNat
def k0_dev17 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v324 : BitVec 32 := Scalar.muli v2 c4_i32_216
  let v325 : BitVec 32 := Scalar.addi c0_i32_217 v324
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_218 : BitVec 32 := 2#32
  let v326 : BitVec 32 := Scalar.muli v9 c2_i32_218
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v328 : BitVec 32 := Scalar.muli v8 c1_i32_219
  let v329 : BitVec 32 := Scalar.addi v327 v328
  v329.toNat
def k0_dev18 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v336 : BitVec 32 := Scalar.muli v2 c4_i32_225
  let v337 : BitVec 32 := Scalar.addi c0_i32_226 v336
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_227 : BitVec 32 := 2#32
  let v338 : BitVec 32 := Scalar.muli v9 c2_i32_227
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v340 : BitVec 32 := Scalar.muli v8 c1_i32_228
  let v341 : BitVec 32 := Scalar.addi v339 v340
  v341.toNat
def k0_dev19 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v348 : BitVec 32 := Scalar.muli v2 c4_i32_234
  let v349 : BitVec 32 := Scalar.addi c0_i32_235 v348
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_236 : BitVec 32 := 2#32
  let v350 : BitVec 32 := Scalar.muli v9 c2_i32_236
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v352 : BitVec 32 := Scalar.muli v8 c1_i32_237
  let v353 : BitVec 32 := Scalar.addi v351 v352
  v353.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Common.lean ====
/-
The protocol of the exchange, before any step of the kernel is run: the partner, the cells, the buffers that each
cell hands over, the schedule with its equations, what a device owes and the levels of its waits.

Device `c` talks to one partner only, `peer c`, the device whose place along the mesh axis `y` is the other one. One
round runs on every cell:
* the barrier cell of `c` is signalled once by `peer c`, which hands over the buffers that `c` will write on it: the
  eight column chunks of its landing buffer and its landing buffer for the row statistics;
* the receive cell `rcv k` of `c` is credited by the copy of chunk `k` from `peer c`, which hands over the landed chunk;
* the receive cell `sr` of `c` is credited by the copy of the statistics from `peer c`;
* the send cells `snd k` and `ss` of `c` give back what `c` lent to its own copies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds, the exchange's rounds, the counters of the local transfers -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def EX : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EX_landsIn : (EX : Emb UB 𝕄).LandsIn (upEmb : UEmb _ 𝕄) := by unfold EX; infer_instance

/-! ## The partner -/

set_option backward.proofsInPublic true in
/-- The device at the other place of the axis `y`. -/
def peer (c : Dev nD) : Dev nD :=
  ⟨(4 * (c.val / 4) + c.val % 2 + 2) - 2 * (c.val / 2 % 2), by have := c.isLt; simp only [nD] at *; omega⟩

theorem peer_peer (c : Dev nD) : peer (peer c) = c := by revert c; decide
theorem peer_ne (c : Dev nD) : peer c ≠ c := by revert c; decide

/-- The partner as a permutation of the devices. -/
def swap : Dev nD ≃ Dev nD := ⟨peer, peer, peer_peer, peer_peer⟩

/-! ## The cells -/

/-- The kinds of cells of one device. -/
inductive Kd where
  | bar
  | ss
  | sr
  | snd (k : Fin 8)
  | rcv (k : Fin 8)
  deriving DecidableEq

/-- A kind's place in the list of the device's cells. -/
def Kd.toFin : Kd → Fin 19
  | bar => 0
  | ss => 1
  | sr => 2
  | snd k => ⟨3 + k.val, by have := k.isLt; omega⟩
  | rcv k => ⟨11 + k.val, by have := k.isLt; omega⟩

/-- The kind at a place. -/
def Kd.ofFin (i : Fin 19) : Kd :=
  if i.val = 0 then .bar else if i.val = 1 then .ss else if i.val = 2 then .sr
  else if h : i.val < 11 then .snd ⟨i.val - 3, by omega⟩ else .rcv ⟨i.val - 11, by have := i.isLt; omega⟩

theorem Kd.ofFin_toFin (κ : Kd) : Kd.ofFin κ.toFin = κ := by
  cases κ with
  | bar => rfl
  | ss => rfl
  | sr => rfl
  | snd k => revert k; decide
  | rcv k => revert k; decide
theorem Kd.toFin_ofFin (i : Fin 19) : (Kd.ofFin i).toFin = i := by revert i; decide

instance : Fintype Kd := Fintype.ofEquiv (Fin 19) ⟨Kd.ofFin, Kd.toFin, Kd.toFin_ofFin, Kd.ofFin_toFin⟩

abbrev barS : Sem sig := (SemArray.scalar (sig.barrier 0 rfl) : Sems sig S_).sem

/-- The semaphore of a kind. -/
def semOf : Kd → SemLoc sig
  | .bar => .reg barS
  | .ss => .dma cc0_scratch12.sem
  | .sr => .dma cc0_scratch13.sem
  | .snd k => .dma (⟨7 + k.val, by have := k.isLt; simp only [sig]; omega⟩ : DmaSem sig)
  | .rcv k => .dma (⟨15 + k.val, by have := k.isLt; simp only [sig]; omega⟩ : DmaSem sig)

/-- The kind of a semaphore, if it is one of the exchange's. -/
def kindOf : SemLoc sig → Option Kd
  | .reg _ => some .bar
  | .dma q =>
    if q.val = 23 then some .ss else if q.val = 24 then some .sr
    else if h : 7 ≤ q.val ∧ q.val < 15 then some (.snd ⟨q.val - 7, by omega⟩)
    else if h : 15 ≤ q.val ∧ q.val < 23 then some (.rcv ⟨q.val - 15, by omega⟩) else none

theorem kindOf_semOf (κ : Kd) : kindOf (semOf κ) = some κ := by
  cases κ with
  | bar => rfl
  | ss => rfl
  | sr => rfl
  | snd k => revert k; decide
  | rcv k => revert k; decide

theorem semOf_injective : Function.Injective semOf := fun a b h =>
  Option.some.inj (by rw [← kindOf_semOf a, ← kindOf_semOf b, h])

/-- The cell of a kind on a device. -/
abbrev cell (c : Dev nD) (κ : Kd) : GSem nD τ sig := ((c : Thread nD τ), semOf κ)

/-! ## The buffers -/

abbrev xM : Memref sig .tc .vmem S512x1024 .f32 := Memref.whole cc0_stg0_0
abbrev lgM : Memref sig .tc .vmem S512x8192 .bf16 := Memref.whole cc0_scratch0
abbrev rxM : Memref sig .tc .vmem S512x8192 .bf16 := Memref.whole cc0_scratch1
abbrev ssM : Memref sig .tc .vmem S512x128 .f32 := Memref.whole cc0_scratch5
abbrev srM : Memref sig .tc .vmem S512x128 .f32 := Memref.whole cc0_scratch6

theorem chunk_inb (k : Fin 8) : ∀ a, (![0, 1024 * k.val] : Fin 2 → Nat) a + S512x1024.size a ≤ S512x8192.size a := by
  revert k; decide

/-- Columns `1024 k` to `1024 k + 1023`. -/
abbrev chunk (k : Fin 8) : Rect S512x8192 := Rect.unit (s := S512x8192) ![0, 1024 * k.val] S512x1024.size (chunk_inb k)
abbrev lgS (k : Fin 8) : Memref sig .tc .vmem S512x1024 .bf16 := lgM.slice (chunk k) (fun _ => rfl)
abbrev rxS (k : Fin 8) : Memref sig .tc .vmem S512x1024 .bf16 := rxM.slice (chunk k) (fun _ => rfl)

theorem col_inb (j : Fin 2) : ∀ a, (![0, j.val] : Fin 2 → Nat) a + S512x1.size a ≤ S512x128.size a := by
  revert j; decide
/-- Column `j` of a statistics buffer. -/
abbrev col (j : Fin 2) : Rect S512x128 := Rect.unit (s := S512x128) ![0, j.val] S512x1.size (col_inb j)

/-! ## What the cells hand over -/

/-- What a device sends: its logits chunk by chunk, its row maxima and its row sums. -/
structure Sent (F : FTy → Type) [FloatOps F] where
  lg : Dev nD → Fin 8 → Vec F S512x1024 .bf16
  mx : Dev nD → Vec F S512x1 .f32
  sx : Dev nD → Vec F S512x1 .f32

variable (C : Sent F)

/-- A chunk of the landing buffer of `c`, over contents `f`. -/
abbrev rxPts (c : Dev nD) (k : Fin 8) (f : Buf (Elt F) ((rxS k).view.loc (c : Thread nD τ))) : sProp 𝕄 :=
  (rxS k).view.loc (c : Thread nD τ) ↦[(rxS k).view.set]{fullShare} f
/-- A chunk of the logits of `c`, at share `q`, as written. -/
abbrev lgPts (c : Dev nD) (k : Fin 8) (q : PosShare TreeShare) : sProp 𝕄 :=
  (lgS k).view.loc (c : Thread nD τ) ↦[(lgS k).view.set]{q} (lgS k).view.rep (C.lg c k)
/-- The statistics as written over contents `f`: the maxima in column 0, the sums in column 1. -/
abbrev stats (c : Dev nD) (f : (cc0_scratch5 : Ref sig .tc).ty.Contents (Elt F)) : (cc0_scratch5 : Ref sig .tc).ty.Contents (Elt F) :=
  ssM.view.writes (Elt F) f [⟨col 1, C.sx c⟩, ⟨col 0, C.mx c⟩]
abbrev ssPts (c : Dev nD) (f : Buf (Elt F) (ssM.view.loc (c : Thread nD τ))) : sProp 𝕄 :=
  ssM.view.loc (c : Thread nD τ) ↦{fullShare} f
abbrev srPts (c : Dev nD) (f : Buf (Elt F) (srM.view.loc (c : Thread nD τ))) : sProp 𝕄 :=
  srM.view.loc (c : Thread nD τ) ↦{fullShare} f

/-- What `d` hands over with its signal: its landing buffers, over some contents. -/
def landing (d : Dev nD) : sProp 𝕄 :=
  iprop((∃ f, rxPts (F := F) d 0 f) ∗ (∃ f, rxPts (F := F) d 1 f) ∗ (∃ f, rxPts (F := F) d 2 f) ∗ (∃ f, rxPts (F := F) d 3 f)
    ∗ (∃ f, rxPts (F := F) d 4 f) ∗ (∃ f, rxPts (F := F) d 5 f) ∗ (∃ f, rxPts (F := F) d 6 f) ∗ (∃ f, rxPts (F := F) d 7 f)
    ∗ ∃ f, srPts (F := F) d f)

/-- What the copy of a chunk of `d`'s logits leaves on `c`. -/
def landed (c d : Dev nD) (k : Fin 8) : sProp 𝕄 :=
  iprop(∃ f, rxPts c k ((rxS k).view.write (Elt F) f ((lgS k).view.read (Elt F) ((lgS k).view.rep (C.lg d k))) Finset.univ))

/-- What a cell of `c` hands over. -/
def payOf (c : Dev nD) : Kd → sProp 𝕄
  | .bar => landing (peer c)
  | .ss => iprop(∃ f, ssPts c (stats C c f))
  | .sr => iprop(∃ f, srPts c (stats C (peer c) f))
  | .snd k => lgPts C c k fullShare.left
  | .rcv k => landed C c (peer c) k

instance rxPts_storable (c : Dev nD) (k : Fin 8) (f) : BI.Storable (upEmb : UEmb _ 𝕄) (rxPts (F := F) c k f) := by unfold rxPts; infer_instance
instance rxSome_storable (c : Dev nD) (k : Fin 8) : BI.Storable (upEmb : UEmb _ 𝕄) (iprop(∃ f, rxPts (F := F) c k f)) := inferInstance
set_option synthInstance.maxHeartbeats 400000 in
instance landing_storable (d : Dev nD) : BI.Storable (upEmb : UEmb _ 𝕄) (landing (F := F) d) := by
  unfold landing; infer_instance
instance landed_storable (c d : Dev nD) (k : Fin 8) : BI.Storable (upEmb : UEmb _ 𝕄) (landed C c d k) := by
  unfold landed; infer_instance
instance payOf_storable (c : Dev nD) (κ : Kd) : BI.Storable (upEmb : UEmb _ 𝕄) (payOf C c κ) := by
  cases κ with
  | bar => exact landing_storable (peer c)
  | ss => show BI.Storable upEmb iprop(∃ f, ssPts c (stats C c f)); infer_instance
  | sr => show BI.Storable upEmb iprop(∃ f, srPts c (stats C (peer c) f)); infer_instance
  | snd k => show BI.Storable upEmb (lgPts C c k fullShare.left); infer_instance
  | rcv k => exact landed_storable C c (peer c) k

/-- The units that a cell's one duty pays. -/
def amtOf : Kd → ℕ
  | .bar => 1
  | .ss | .sr => ssM.view.dmaCredit
  | .snd k | .rcv k => (lgS k).view.dmaCredit

theorem amtOf_pos (κ : Kd) : 0 < amtOf κ := by
  cases κ with
  | bar => exact Nat.one_pos
  | ss => exact View.dmaCredit_pos _ (by decide)
  | sr => exact View.dmaCredit_pos _ (by decide)
  | snd k => exact View.dmaCredit_pos _ (by decide)
  | rcv k => exact View.dmaCredit_pos _ (by decide)

/-! ## The schedule -/

/-- One round: each cell of the exchange has one duty, of its amount, which hands over the cell's payload. -/
def rd : Rounds.Schedule (GSem nD τ sig) Unit 𝕄 where
  duties g r := if r = 0 ∧ g.1.2 = .tc ∧ (kindOf g.2).isSome then {()} else ∅
  unitless _ := False
  amount g _ _ := match kindOf g.2 with | some κ => amtOf κ | none => 1
  payload g _ _ := match kindOf g.2 with | some κ => payOf C g.1.1 κ | none => iprop(emp)
  amount_pos g _ _ _ := by
    cases kindOf g.2 with
    | none => exact Nat.one_pos
    | some κ => exact amtOf_pos κ

instance rd_storable (g : GSem nD τ sig) (r : ℕ) (d : Unit) : BI.Storable (upEmb : UEmb _ 𝕄) ((rd C).payload g r d) := by
  show BI.Storable upEmb (match kindOf g.2 with | some κ => payOf C g.1.1 κ | none => iprop(emp))
  cases kindOf g.2 <;> infer_instance

theorem duties_cell (c : Dev nD) (κ : Kd) : (rd C).duties (cell c κ) 0 = {()} := by
  dsimp only [rd]; rw [kindOf_semOf]; exact if_pos ⟨rfl, rfl, rfl⟩
theorem duties_later (g : GSem nD τ sig) : ∀ r, 1 ≤ r → (rd C).duties g r = ∅ :=
  fun r hr => by dsimp only [rd]; exact if_neg fun h => by omega
theorem amount_cell (c : Dev nD) (κ : Kd) (d : Unit) : (rd C).amount (cell c κ) 0 d = amtOf κ := by
  dsimp only [rd]; rw [kindOf_semOf]
theorem expect_cell (c : Dev nD) (κ : Kd) : (rd C).expect (cell c κ) 0 = amtOf κ := by
  unfold Schedule.expect Schedule.amountOf; rw [duties_cell, Finset.sum_singleton, amount_cell]
theorem payload_cell (c : Dev nD) (κ : Kd) (d : Unit) : (rd C).payload (cell c κ) 0 d = payOf C c κ := by
  dsimp only [rd]; rw [kindOf_semOf]

theorem payload_bar (c : Dev nD) (d : Unit) : (rd C).payload (cell c .bar) 0 d
    = iprop((∃ f : Buf (Elt F) ((rxS 0).view.loc (peer c : Thread nD τ)), ((rxS 0).view.loc (peer c : Thread nD τ) ↦[(rxS 0).view.set]{fullShare} f))
      ∗ (∃ f : Buf (Elt F) ((rxS 1).view.loc (peer c : Thread nD τ)), ((rxS 1).view.loc (peer c : Thread nD τ) ↦[(rxS 1).view.set]{fullShare} f))
      ∗ (∃ f : Buf (Elt F) ((rxS 2).view.loc (peer c : Thread nD τ)), ((rxS 2).view.loc (peer c : Thread nD τ) ↦[(rxS 2).view.set]{fullShare} f))
      ∗ (∃ f : Buf (Elt F) ((rxS 3).view.loc (peer c : Thread nD τ)), ((rxS 3).view.loc (peer c : Thread nD τ) ↦[(rxS 3).view.set]{fullShare} f))
      ∗ (∃ f : Buf (Elt F) ((rxS 4).view.loc (peer c : Thread nD τ)), ((rxS 4).view.loc (peer c : Thread nD τ) ↦[(rxS 4).view.set]{fullShare} f))
      ∗ (∃ f : Buf (Elt F) ((rxS 5).view.loc (peer c : Thread nD τ)), ((rxS 5).view.loc (peer c : Thread nD τ) ↦[(rxS 5).view.set]{fullShare} f))
      ∗ (∃ f : Buf (Elt F) ((rxS 6).view.loc (peer c : Thread nD τ)), ((rxS 6).view.loc (peer c : Thread nD τ) ↦[(rxS 6).view.set]{fullShare} f))
      ∗ (∃ f : Buf (Elt F) ((rxS 7).view.loc (peer c : Thread nD τ)), ((rxS 7).view.loc (peer c : Thread nD τ) ↦[(rxS 7).view.set]{fullShare} f))
      ∗ ∃ f : Buf (Elt F) (srM.view.loc (peer c : Thread nD τ)), (srM.view.loc (peer c : Thread nD τ) ↦{fullShare} f)) := payload_cell C c .bar d
/-- The same cell seen by the one who signals it. -/
theorem payload_bar_peer (c : Dev nD) (d : Unit) : (rd C).payload (cell (peer c) .bar) 0 d
    = iprop((∃ f : Buf (Elt F) ((rxS 0).view.loc (c : Thread nD τ)), ((rxS 0).view.loc (c : Thread nD τ) ↦[(rxS 0).view.set]{fullShare} f))
      ∗ (∃ f : Buf (Elt F) ((rxS 1).view.loc (c : Thread nD τ)), ((rxS 1).view.loc (c : Thread nD τ) ↦[(rxS 1).view.set]{fullShare} f))
      ∗ (∃ f : Buf (Elt F) ((rxS 2).view.loc (c : Thread nD τ)), ((rxS 2).view.loc (c : Thread nD τ) ↦[(rxS 2).view.set]{fullShare} f))
      ∗ (∃ f : Buf (Elt F) ((rxS 3).view.loc (c : Thread nD τ)), ((rxS 3).view.loc (c : Thread nD τ) ↦[(rxS 3).view.set]{fullShare} f))
      ∗ (∃ f : Buf (Elt F) ((rxS 4).view.loc (c : Thread nD τ)), ((rxS 4).view.loc (c : Thread nD τ) ↦[(rxS 4).view.set]{fullShare} f))
      ∗ (∃ f : Buf (Elt F) ((rxS 5).view.loc (c : Thread nD τ)), ((rxS 5).view.loc (c : Thread nD τ) ↦[(rxS 5).view.set]{fullShare} f))
      ∗ (∃ f : Buf (Elt F) ((rxS 6).view.loc (c : Thread nD τ)), ((rxS 6).view.loc (c : Thread nD τ) ↦[(rxS 6).view.set]{fullShare} f))
      ∗ (∃ f : Buf (Elt F) ((rxS 7).view.loc (c : Thread nD τ)), ((rxS 7).view.loc (c : Thread nD τ) ↦[(rxS 7).view.set]{fullShare} f))
      ∗ ∃ f : Buf (Elt F) (srM.view.loc (c : Thread nD τ)), (srM.view.loc (c : Thread nD τ) ↦{fullShare} f)) :=
  (payload_cell C (peer c) .bar d).trans (by show landing (peer (peer c)) = _; rw [peer_peer]; rfl)
theorem payload_ss (c : Dev nD) (d : Unit) : (rd C).payload (cell c .ss) 0 d
    = iprop(∃ f, ssM.view.loc (c : Thread nD τ) ↦{fullShare} (stats C c f)) := payload_cell C c .ss d
theorem payload_sr (c : Dev nD) (d : Unit) : (rd C).payload (cell c .sr) 0 d
    = iprop(∃ f, srM.view.loc (c : Thread nD τ) ↦{fullShare} (stats C (peer c) f)) := payload_cell C c .sr d
theorem payload_snd (c : Dev nD) (k : Fin 8) (d : Unit) : (rd C).payload (cell c (.snd k)) 0 d
    = iprop((lgS k).view.loc (c : Thread nD τ) ↦[(lgS k).view.set]{fullShare.left} (lgS k).view.rep (C.lg c k)) := payload_cell C c (.snd k) d
theorem payload_rcv (c : Dev nD) (k : Fin 8) (d : Unit) : (rd C).payload (cell c (.rcv k)) 0 d
    = iprop(∃ f, (rxS k).view.loc (c : Thread nD τ) ↦[(rxS k).view.set]{fullShare}
        (rxS k).view.write (Elt F) f ((lgS k).view.read (Elt F) ((lgS k).view.rep (C.lg (peer c) k))) Finset.univ) :=
  payload_cell C c (.rcv k) d
/-- The receive cells seen by the one who copies onto them. -/
theorem payload_rcv_peer (c : Dev nD) (k : Fin 8) (d : Unit) : (rd C).payload (cell (peer c) (.rcv k)) 0 d
    = iprop(∃ f, (rxS k).view.loc (peer c : Thread nD τ) ↦[(rxS k).view.set]{fullShare}
        (rxS k).view.write (Elt F) f ((lgS k).view.read (Elt F) ((lgS k).view.rep (C.lg c k))) Finset.univ) :=
  (payload_rcv C (peer c) k d).trans (by rw [peer_peer])
theorem payload_sr_peer (c : Dev nD) (d : Unit) : (rd C).payload (cell (peer c) .sr) 0 d
    = iprop(∃ f, srM.view.loc (peer c : Thread nD τ) ↦{fullShare} (stats C c f)) :=
  (payload_sr C (peer c) d).trans (by rw [peer_peer])

theorem amount_bar (c : Dev nD) (d : Unit) : (rd C).amount (cell c .bar) 0 d = 1 := amount_cell C c .bar d
theorem expect_bar (c : Dev nD) : (rd C).expect (cell c .bar) 0 = 1 := expect_cell C c .bar

/-! ## What a device owes at launch; the levels -/

/-- The units of one cell of the partner. -/
abbrev due (c : Dev nD) (κ : Kd) : CellTallies nD τ sig Unit := tallyAt (cell (peer c) κ) () (amtOf κ)

/-- After the first copy. -/
abbrev O₂ (c : Dev nD) : CellTallies nD τ sig Unit :=
  due c .sr + due c (.rcv 1) + due c (.rcv 2) + due c (.rcv 3) + due c (.rcv 4) + due c (.rcv 5) + due c (.rcv 6) + due c (.rcv 7)
/-- After the signal. -/
abbrev O₁ (c : Dev nD) : CellTallies nD τ sig Unit := O₂ c + due c (.rcv 0)
/-- At launch: the partner's barrier, its receive cells and its cell for the statistics. -/
abbrev O₀ (c : Dev nD) : CellTallies nD τ sig Unit := O₁ c + tallyAt (cell (peer c) .bar) () 1

def L (g : GSem nD τ sig) : Finset Unit := if g.1.2 = .tc then {()} else ∅

/-- The level of a kind. -/
def lvK : Option Kd → ℕ
  | some .bar => 1
  | some .sr => 2
  | some (.rcv _) => 2
  | _ => 0

def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (κ : Kd) (u : Unit) : lv (cell c κ) u = lvK (some κ) := by unfold lv; rw [kindOf_semOf]

/-- Units of a partner's cells whose levels are above `b`. -/
def Above (b : ℕ) (O : CellTallies nD τ sig Unit) : Prop :=
  ∀ g u, 0 < O g u → ∃ d κ, g = cell d κ ∧ b < lvK (some κ)

theorem Above.zero (b : ℕ) : Above b 0 := fun g u h => absurd h (Nat.lt_irrefl 0)
theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0
theorem Above.tally {b : ℕ} (d : Dev nD) (κ : Kd) (n : ℕ) (h : b < lvK (some κ)) : Above b (tallyAt (cell d κ) () n) := by
  intro g u hg
  rw [tallyAt_apply] at hg
  by_cases h' : g = cell d κ ∧ u = ()
  · exact ⟨d, κ, h'.1, h⟩
  · rw [if_neg h'] at hg; exact absurd hg (Nat.lt_irrefl 0)

theorem above_O₂ (c : Dev nD) : Above 1 (O₂ c) := by
  unfold O₂ due
  repeat' apply Above.add
  all_goals exact Above.tally _ _ _ (by decide)
theorem above_O₁ (c : Dev nD) : Above 1 (O₁ c) := (above_O₂ c).add (Above.tally _ _ _ (by decide))
theorem Above.le {b b' : ℕ} {O : CellTallies nD τ sig Unit} (h : Above b O) (hb : b' ≤ b) : Above b' O :=
  fun g u hg => let ⟨d, κ, e, l⟩ := h g u hg; ⟨d, κ, e, by omega⟩
theorem above_O₀ (c : Dev nD) : Above 0 (O₀ c) := ((above_O₁ c).le (by omega)).add (Above.tally _ _ _ (by decide))

/-- A wait at a level that every unit owed lies above. -/
theorem mayWait_of_above (c : Dev nD) (sm : SemLoc sig) (b : ℕ) (hb : lvK (kindOf sm) ≤ b) (O : CellTallies nD τ sig Unit) (hO : Above b O) :
    (levAts L lv : sProp 𝕄) ⊢ MayWait (c : Thread nD τ) sm () O := by
  refine MayOwe.of_cut (L := L) (lev := lv) b (fun p hp => by rw [Finset.mem_singleton.mp hp, L_tc]; exact Finset.mem_singleton_self _)
    (fun g u hg => ?_) (fun p hp => by rw [Finset.mem_singleton.mp hp]; exact hb) (fun g u hg => ?_)
  · obtain ⟨d, κ, rfl, -⟩ := hO g u hg
    rw [L_tc]; exact Finset.mem_singleton_self _
  · obtain ⟨d, κ, rfl, h⟩ := hO g u hg
    rw [lv_cell]; exact h

end Cert.Exchange
-- ==== Proof.Vals.lean ====
module

public import proofs.«01_k».proof.Proof.Common

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The buffers, their slots and their chunks -/

abbrev wbM : Memref sig .tc .vmem S2x1024x1024 .f32 := Memref.whole cc0_scratch2
abbrev lsM : Memref sig .tc .vmem S2x512x1024 .f32 := Memref.whole cc0_scratch3
abbrev rsM : Memref sig .tc .vmem S2x512x1024 .f32 := Memref.whole cc0_scratch4
abbrev WM : Memref sig .tc .hbm S1024x8192 .f32 := Memref.whole main_arg1
abbrev outM : Memref sig .tc .hbm S512x16384 .f32 := Memref.whole main_v1

theorem wslot_inb (s : Fin 2) : ∀ a, (![s.val, 0, 0] : Fin 3 → Nat) a + S1x1024x1024.size a ≤ S2x1024x1024.size a := by revert s; decide
theorem oslot_inb (s : Fin 2) : ∀ a, (![s.val, 0, 0] : Fin 3 → Nat) a + S1x512x1024.size a ≤ S2x512x1024.size a := by revert s; decide
theorem wcol_inb (k : Fin 8) : ∀ a, (![0, 1024 * k.val] : Fin 2 → Nat) a + S1024x1024.size a ≤ S1024x8192.size a := by revert k; decide

abbrev wslot (s : Fin 2) : Rect S2x1024x1024 := Rect.unit (s := S2x1024x1024) ![s.val, 0, 0] S1x1024x1024.size (wslot_inb s)
abbrev oslot (s : Fin 2) : Rect S2x512x1024 := Rect.unit (s := S2x512x1024) ![s.val, 0, 0] S1x512x1024.size (oslot_inb s)
abbrev wbS (s : Fin 2) : Memref sig .tc .vmem S1024x1024 .f32 :=
  (wbM.slice (wslot s) (fun _ => rfl)).squeeze S1024x1024 squeezes_S1x1024x1024_S1024x1024
abbrev lsS (s : Fin 2) : Memref sig .tc .vmem S512x1024 .f32 :=
  (lsM.slice (oslot s) (fun _ => rfl)).squeeze S512x1024 squeezes_S1x512x1024_S512x1024

theorem wbS_set (s : Fin 2) : (wbS s).view.set = (wslot s).set := by
  show ((wbM.slice (wslot s) (fun _ => rfl)).squeeze S1024x1024 squeezes_S1x1024x1024_S1024x1024).view.set = _
  rw [Memref.set_view_squeeze]
  exact View.set_slice_whole _ _

theorem wslot_disjoint {s s' : Fin 2} (h : s ≠ s') : Disjoint (wslot s).set (wslot s').set := by
  refine Finset.disjoint_left.mpr fun i hi hi' => h (Fin.ext ?_)
  have e := (Rect.mem_set_unit.mp hi) 0
  have e' := (Rect.mem_set_unit.mp hi') 0
  simp [S1x1024x1024] at e e'
  omega

/-- A slot of the weights' buffer as loaded, after a copy of `X` into it. -/
def wR (s : Fin 2) (X : S1024x1024.Idx → Elt F .f32) : Vec F S1x1024x1024 .f32 :=
  wbM.view.readAt (Elt F) (wslot s).toLoadRect ((wbS s).view.rep X)

/-- A load of the slot just copied into reads what was copied. -/
theorem wR_eq (s : Fin 2) (b : wbM.view.ty.Contents (Elt F)) (X : S1024x1024.Idx → Elt F .f32) :
    wbM.view.readAt (Elt F) (wslot s).toLoadRect ((wbS s).view.write (Elt F) b X Finset.univ) = wR s X := by
  unfold wR
  refine View.readAt_congr fun i hi => ?_
  have hi' : i ∈ (wbS s).view.set := by
    rw [wbS_set]
    rcases Finset.mem_map.mp hi with ⟨x, hx, rfl⟩
    exact hx
  obtain ⟨x, -, rfl⟩ := Finset.mem_map.mp hi'
  rw [View.write_emb_of_mem _ _ (Finset.mem_univ x), View.rep_emb]

/-- A load of one slot does not see a copy into the other. -/
theorem wR_other (s s' : Fin 2) (h : s ≠ s') (b : wbM.view.ty.Contents (Elt F)) (X : S1024x1024.Idx → Elt F .f32) :
    wbM.view.readAt (Elt F) (wslot s).toLoadRect ((wbS s').view.write (Elt F) b X Finset.univ) = wbM.view.readAt (Elt F) (wslot s).toLoadRect b := by
  refine View.readAt_congr fun i hi => View.write_of_not_mem _ _ _ fun hi' => ?_
  have hi1 : i ∈ (wslot s').set := by rw [← wbS_set]; exact hi'
  have hi2 : i ∈ (wslot s).set := by
    rcases Finset.mem_map.mp hi with ⟨x, hx, rfl⟩
    exact hx
  exact Finset.disjoint_left.mp (wslot_disjoint h) hi2 hi1

/-! ## The values -/

/-- Chunk `k` of a device's weights. -/
abbrev wS (k : Fin 8) : Memref sig .tc .hbm S1024x1024 .f32 :=
  WM.slice (Rect.unit (s := S1024x8192) ![0, 1024 * k.val] S1024x1024.size (wcol_inb k)) (fun _ => rfl)
/-- The input as loaded. -/
def xL (x : xM.view.ty.Contents (Elt F)) : Vec F S512x1024 .f32 :=
  xM.view.readAt (Elt F) (Rect.unit (s := S512x1024) ![0, 0] S512x1024.size inb_S512x1024_S512x1024_0_0).toLoadRect x
def par (k : Fin 8) : Fin 2 := ⟨k.val % 2, Nat.mod_lt _ (by decide)⟩
/-- Chunk `k` of the weights as loaded. -/
def wL (w : WM.view.ty.Contents (Elt F)) (k : Fin 8) : Vec F S1x1024x1024 .f32 := wR (par k) ((wS k).view.read (Elt F) w)
/-- The logits of a chunk. -/
def lgF (x : Vec F S512x1024 .f32) (w : Vec F S1x1024x1024 .f32) : FVec F S512x1024 .f32 := k0_pay7 (k0_pay1 x) w
/-- The logits of a chunk as stored. -/
def lgB (x : Vec F S512x1024 .f32) (w : Vec F S1x1024x1024 .f32) : FVec F S512x1024 .bf16 := k0_pay9 (k0_pay8 (k0_pay1 x) w)
/-- The running row maxima after chunk `k`. -/
def mAt (x : Vec F S512x1024 .f32) (w : ℕ → Vec F S1x1024x1024 .f32) : ℕ → FVec F S512x1 .f32
  | 0 => k0_pay4 x (w 0)
  | k + 1 => k0_pay10 (mAt x w k) (lgF x (w (k + 1)))
/-- The running row sums after chunk `k`. -/
def sAt (x : Vec F S512x1024 .f32) (w : ℕ → Vec F S1x1024x1024 .f32) : ℕ → FVec F S512x1 .f32
  | 0 => k0_pay6 (k0_pay5 x (w 0))
  | k + 1 => k0_pay11 (mAt x w k) (sAt x w k) (lgF x (w (k + 1)))

theorem lg_read (k : Fin 8) (b : lgM.view.ty.Contents (Elt F)) (v : Vec F S512x1024 .bf16) :
    (lgS k).view.read (Elt F) ((lgM.access (chunk k)).write (Elt F) b v Finset.univ) = v := View.read_write_univ _ _

/-- A chunk of the logits held over contents that read as what is sent is held in two halves over the chunk as written. -/
theorem lg_share (C : Sent F) (c : Dev nD) (k : Fin 8) (g : Buf (Elt F) ((lgS k).view.loc (c : Thread nD τ)))
    (h : (lgS k).view.read (Elt F) g = C.lg c k) :
    ((lgS k).view.loc (c : Thread nD τ) ↦[(lgS k).view.set]{fullShare} g : sProp 𝕄)
      ⊢ iprop(((lgS k).view.loc (c : Thread nD τ) ↦[(lgS k).view.set]{fullShare.left} (lgS k).view.rep (C.lg c k))
        ∗ ((lgS k).view.loc (c : Thread nD τ) ↦[(lgS k).view.set]{fullShare.right} (lgS k).view.rep (C.lg c k))) := by
  refine (pointsTo_rep_entails (c : Thread nD τ) (lgS k) g fullShare).trans ?_
  rw [h]
  iintro H
  icases H with ⟨H1, H2⟩
  isplitl [H1]
  · iexact H1
  · iexact H2

/-- The statistics' buffer over values equal to those sent. -/
theorem stat_pts (C : Sent F) (c : Dev nD) (f : Buf (Elt F) (ssM.view.loc (c : Thread nD τ))) (m s : Vec F S512x1 .f32)
    (hm : m = C.mx c) (hs : s = C.sx c) :
    (ssM.view.loc (c : Thread nD τ) ↦{fullShare} (ssM.view.writes (Elt F) f
        [⟨Rect.unit (s := S512x128) ![0, 1] S512x1.size inb_S512x128_S512x1_0_1, s⟩, ⟨Rect.unit (s := S512x128) ![0, 0] S512x1.size inb_S512x128_S512x1_0_0, m⟩]) : sProp 𝕄)
      ⊢ ssM.view.loc (c : Thread nD τ) ↦{fullShare} (stats C c f) := by
  subst hm hs; exact .rfl

/-- The weights' chunks as loaded, by number. -/
def wN (w : WM.view.ty.Contents (Elt F)) (k : ℕ) : Vec F S1x1024x1024 .f32 := if h : k < 8 then wL w ⟨k, h⟩ else wL w 0

end Cert.Exchange
-- ==== Proof.Out.lean ====
module

public import proofs.«01_k».proof.Proof.Vals
public import Idealize.ShloMosaic.Lib.WritesUnit

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## What the output holds: a chunk of logits turned into probabilities, its column chunk by column chunk -/

abbrev rsS (s : Fin 2) : Memref sig .tc .vmem S512x1024 .f32 :=
  (rsM.slice (oslot s) (fun _ => rfl)).squeeze S512x1024 squeezes_S1x512x1024_S512x1024

/-- A staged chunk without its leading axis. -/
def oR (P : Vec F S1x512x1024 .f32) : S512x1024.Idx → Elt F .f32 :=
  fun y => P (Shape.reshapeEquiv squeezes_S1x512x1024_S512x1024.numel_eq y)

/-- The log of the global sum over a row, from the maxima and the sums of both devices, on top of the global maximum. -/
abbrev bV (m s mp sp : Vec F S512x1 .f32) : FVec F S512x1 .f32 := k0_pay39 m s mp sp
/-- A chunk of probabilities, from the logits as stored and the row values that normalise. -/
def oc (b : FVec F S512x1 .f32) (lg : Vec F S512x1024 .bf16) : S512x1024.Idx → Elt F .f32 := oR (k0_pay42 b lg)

theorem ls_out (s : Fin 2) (f : lsM.view.ty.Contents (Elt F)) (L : List (View.Piece (Elt F) S2x512x1024 .f32))
    (b' b : FVec F S512x1 .f32) (X lg : Vec F S512x1024 .bf16) (hb : b' = b) (hX : X = lg) :
    (lsS s).view.read (Elt F) (lsM.view.writes (Elt F) f (⟨oslot s, k0_pay42 b' X⟩ :: L)) = oc b lg := by
  subst hb hX
  funext y
  exact View.read_writes_cons_emb lsM.view f (oslot s) (k0_pay42 b' X) L _
theorem rs_out (s : Fin 2) (f : rsM.view.ty.Contents (Elt F)) (L : List (View.Piece (Elt F) S2x512x1024 .f32))
    (b' b : FVec F S512x1 .f32) (X lg : Vec F S512x1024 .bf16) (hb : b' = b) (hX : X = lg) :
    (rsS s).view.read (Elt F) (rsM.view.writes (Elt F) f (⟨oslot s, k0_pay42 b' X⟩ :: L)) = oc b lg := by
  subst hb hX
  funext y
  exact View.read_writes_cons_emb rsM.view f (oslot s) (k0_pay42 b' X) L _

/-- A chunk of the logits as written loads as it is. -/
theorem lg_load (k : Fin 8) (X : Vec F S512x1024 .bf16) :
    lgM.view.readAt (Elt F) (chunk k).toLoadRect ((lgS k).view.rep X) = X := View.read_rep _ _
/-- A chunk that has landed loads as it was sent. -/
theorem rx_load (k : Fin 8) (f : rxM.view.ty.Contents (Elt F)) (X : Vec F S512x1024 .bf16) :
    rxM.view.readAt (Elt F) (chunk k).toLoadRect ((rxS k).view.write (Elt F) f ((lgS k).view.read (Elt F) ((lgS k).view.rep X)) Finset.univ) = X :=
  (View.read_write_univ (v := (rxS k).view) f _).trans (View.read_rep _ _)

theorem stats_eq (C : Sent F) (d : Dev nD) (f : srM.view.ty.Contents (Elt F)) :
    stats C d f = srM.view.writes (Elt F) f [⟨col 1, C.sx d⟩, ⟨col 0, C.mx d⟩] := rfl

theorem col0_lt (y : (col 0).shape.Idx) : ((col 0).emb y (1 : Fin 2)).val < 1 := by
  have h : ((y (1 : Fin 2))).val < 1 := (y (1 : Fin 2)).isLt
  show 0 + 1 * (y (1 : Fin 2)).val < 1
  omega

theorem stat_miss (v w : Vec F S512x1 .f32) (f : srM.view.ty.Contents (Elt F)) (y : (col 0).shape.Idx) :
    srM.view.read (Elt F) (srM.view.writes (Elt F) f [⟨col 1, v⟩, ⟨col 0, w⟩]) ((col 0).emb y)
      = srM.view.read (Elt F) (srM.view.writes (Elt F) f [⟨col 0, w⟩]) ((col 0).emb y) :=
  View.read_writes_cons_miss_of_axis srM.view f ⟨col 1, v⟩ [⟨col 0, w⟩] ((col 0).emb y) (1 : Fin 2) 1 1 rfl rfl rfl (Or.inl (col0_lt y))

theorem stat_load0 (C : Sent F) (d : Dev nD) (f : srM.view.ty.Contents (Elt F)) :
    srM.view.readAt (Elt F) (col 0).toLoadRect (stats C d f) = C.mx d := by
  rw [stats_eq]
  funext y
  exact (stat_miss (C.sx d) (C.mx d) f y).trans (View.read_writes_cons_emb srM.view f (col 0) (C.mx d) [] y)
theorem stat_load1 (C : Sent F) (d : Dev nD) (f : srM.view.ty.Contents (Elt F)) :
    srM.view.readAt (Elt F) (col 1).toLoadRect (stats C d f) = C.sx d := by
  rw [stats_eq]
  funext y
  exact View.read_writes_cons_emb srM.view f (col 1) (C.sx d) [⟨col 0, C.mx d⟩] y

theorem ocol_inb (q : Fin 16) : ∀ a, (![0, 1024 * q.val] : Fin 2 → Nat) a + S512x1024.size a ≤ S512x16384.size a := by revert q; decide
/-- Columns `1024 q` to `1024 q + 1023` of the output. -/
abbrev ocol (q : Fin 16) : Rect S512x16384 := Rect.unit (s := S512x16384) ![0, 1024 * q.val] S512x1024.size (ocol_inb q)

def colOf (i : S512x16384.Idx) : Fin 16 := ⟨(i (1 : Fin 2)).val / 1024, by have h : (i (1 : Fin 2)).val < 16384 := (i (1 : Fin 2)).isLt; omega⟩
def inCol (i : S512x16384.Idx) : S512x1024.Idx := fun a => match a with
  | ⟨0, _⟩ => ⟨(i (0 : Fin 2)).val, (i (0 : Fin 2)).isLt⟩
  | ⟨1, _⟩ => ⟨(i (1 : Fin 2)).val % 1024, Nat.mod_lt _ (by decide)⟩

/-- The output made of sixteen column chunks. -/
def outOf (P : Fin 16 → S512x1024.Idx → Elt F .f32) : outM.view.ty.Contents (Elt F) := fun i => P (colOf i) (inCol i)

theorem writes_cols (P : Fin 16 → S512x1024.Idx → Elt F .f32) (f : outM.view.ty.Contents (Elt F)) (l : List (Fin 16))
    (i : S512x16384.Idx) (h : colOf i ∈ l) :
    outM.view.read (Elt F) (outM.view.writes (Elt F) f (l.map fun q => (⟨ocol q, P q⟩ : View.Piece (Elt F) S512x16384 .f32))) i
      = P (colOf i) (inCol i) := by
  induction l with
  | nil => exact absurd h (List.not_mem_nil)
  | cons q l ih =>
    rw [List.map_cons]
    by_cases hq : colOf i = q
    · subst hq
      refine View.read_writes_cons_hit_of_coords outM.view f (ocol (colOf i)) (P (colOf i)) _ (inCol i) i fun a => ?_
      match a with
      | ⟨0, _⟩ => show (i (0 : Fin 2)).val = 0 + 1 * (i (0 : Fin 2)).val; omega
      | ⟨1, _⟩ => show (i (1 : Fin 2)).val = 1024 * ((i (1 : Fin 2)).val / 1024) + 1 * ((i (1 : Fin 2)).val % 1024); omega
    · rw [View.read_writes_cons_miss_of_axis _ _ _ _ _ (1 : Fin 2) (1024 * q.val) 1024 rfl rfl rfl]
      · exact ih ((List.mem_cons.mp h).resolve_left hq)
      · have hne : (i (1 : Fin 2)).val / 1024 ≠ q.val := fun e => hq (Fin.ext e)
        omega

/-- Sixteen copies into the columns, in any order, leave the output made of them. -/
theorem out_eq (P : Fin 16 → S512x1024.Idx → Elt F .f32) (f : outM.view.ty.Contents (Elt F)) (l : List (Fin 16)) (hl : ∀ q, q ∈ l)
    (L : List (View.Piece (Elt F) S512x16384 .f32)) (hL : L = l.map fun q => (⟨ocol q, P q⟩ : View.Piece (Elt F) S512x16384 .f32)) :
    outM.view.writes (Elt F) f L = outOf P := by
  subst hL
  funext i
  exact writes_cols P f l i (hl _)

theorem piece_cons {r : Rect S512x16384} {w w' : r.shape.Idx → Elt F .f32} {L L' : List (View.Piece (Elt F) S512x16384 .f32)}
    (h : w = w') (hL : L = L') : (⟨r, w⟩ : View.Piece (Elt F) S512x16384 .f32) :: L = ⟨r, w'⟩ :: L' := by rw [h, hL]

/-- The row values that normalise, from the partner's statistics as they are loaded. -/
theorem b_eq (C : Sent F) (d : Dev nD) (m s : Vec F S512x1 .f32) (f : srM.view.ty.Contents (Elt F)) :
    k0_pay39 m s (srM.view.readAt (Elt F) (col 0).toLoadRect (stats C d f)) (srM.view.readAt (Elt F) (col 1).toLoadRect (stats C d f))
      = bV m s (C.mx d) (C.sx d) := by rw [stat_load0, stat_load1]

/-- The output over copies into all its columns. -/
theorem out_pts (c : Dev nD) (P : Fin 16 → S512x1024.Idx → Elt F .f32) (f : Buf (Elt F) (outM.view.loc (c : Thread nD τ))) (l : List (Fin 16))
    (hl : ∀ q, q ∈ l) (L : List (View.Piece (Elt F) S512x16384 .f32)) :
    (outM.view.loc (c : Thread nD τ) ↦{fullShare} (outM.view.writes (Elt F) f L) : sProp 𝕄)
      ⊢ iprop(⌜L = l.map fun q => (⟨ocol q, P q⟩ : View.Piece (Elt F) S512x16384 .f32)⌝ -∗ (outM.view.loc (c : Thread nD τ) ↦{fullShare} (outOf P))) := by
  iintro H %hL
  rw [out_eq P f l hl L hL]
  iexact H

/-- The chunks of an output: first those of the logits `lg`, then those of `lp`. -/
def chunksL (b : FVec F S512x1 .f32) (lg lp : Fin 8 → Vec F S512x1024 .bf16) (q : Fin 16) : S512x1024.Idx → Elt F .f32 :=
  if h : q.val < 8 then oc b (lg ⟨q.val, h⟩) else oc b (lp ⟨q.val - 8, by have := q.isLt; omega⟩)

end Cert.Exchange
-- ==== Proof.Protocol.lean ====
module

public import proofs.«01_k».proof.Proof.Out
public import proofs.«01_k».proof.Proof.Gen.KernelIdeal.Points

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The device that the signal addresses is the partner. -/
theorem dev1_eq (c : Dev nD) : (⟨k0_dev1 c, k0_dev1_lt c⟩ : Dev nD) = peer c := Fin.ext (k0_dev1_eq c)

/-! ## What a device's body starts from and what it leaves -/

/-- The device that pays a cell's counterpart for `c`: its own cells count what it sends, the partner's what arrives there. -/
def payer (c : Dev nD) : Kd → Dev nD
  | .ss => c
  | .snd _ => c
  | .bar => peer c
  | .sr => peer c
  | .rcv _ => peer c

/-- The credit that comes with the launch, for the cells that the partner pays. -/
def credK (c : Dev nD) : Kd → sProp 𝕄
  | .ss => iprop(emp)
  | .snd _ => iprop(emp)
  | .bar => cred (tallyAt (cell c .bar) () (amtOf .bar))
  | .sr => cred (tallyAt (cell c .sr) () (amtOf .sr))
  | .rcv k => cred (tallyAt (cell c (.rcv k)) () (amtOf (.rcv k)))

theorem kd_chain (Φ : Kd → sProp 𝕄) : bigSep Finset.univ Φ
    = iprop(Φ .bar ∗ Φ .ss ∗ Φ .sr ∗ Φ (.snd 0) ∗ Φ (.snd 1) ∗ Φ (.snd 2) ∗ Φ (.snd 3) ∗ Φ (.snd 4) ∗ Φ (.snd 5) ∗ Φ (.snd 6) ∗ Φ (.snd 7)
      ∗ Φ (.rcv 0) ∗ Φ (.rcv 1) ∗ Φ (.rcv 2) ∗ Φ (.rcv 3) ∗ Φ (.rcv 4) ∗ Φ (.rcv 5) ∗ Φ (.rcv 6) ∗ Φ (.rcv 7)) :=
  (bigSep_univ_eq_bigSepL [Kd.bar, Kd.ss, Kd.sr, Kd.snd 0, Kd.snd 1, Kd.snd 2, Kd.snd 3, Kd.snd 4, Kd.snd 5, Kd.snd 6, Kd.snd 7,
    Kd.rcv 0, Kd.rcv 1, Kd.rcv 2, Kd.rcv 3, Kd.rcv 4, Kd.rcv 5, Kd.rcv 6, Kd.rcv 7] (by decide) (by decide) Φ).trans rfl
/-- The same over the devices that pay. -/
theorem payer_chain (c : Dev nD) (Φ : Dev nD → Kd → sProp 𝕄) : bigSep Finset.univ (fun κ => Φ (payer c κ) κ)
    = iprop(Φ (peer c) .bar ∗ Φ c .ss ∗ Φ (peer c) .sr ∗ Φ c (.snd 0) ∗ Φ c (.snd 1) ∗ Φ c (.snd 2) ∗ Φ c (.snd 3) ∗ Φ c (.snd 4) ∗ Φ c (.snd 5)
      ∗ Φ c (.snd 6) ∗ Φ c (.snd 7) ∗ Φ (peer c) (.rcv 0) ∗ Φ (peer c) (.rcv 1) ∗ Φ (peer c) (.rcv 2) ∗ Φ (peer c) (.rcv 3) ∗ Φ (peer c) (.rcv 4)
      ∗ Φ (peer c) (.rcv 5) ∗ Φ (peer c) (.rcv 6) ∗ Φ (peer c) (.rcv 7)) := kd_chain _
theorem cred_chain (c : Dev nD) : bigSep Finset.univ (credK (F := F) c)
    = iprop(cred (tallyAt (cell c .bar) () (amtOf .bar)) ∗ emp ∗ cred (tallyAt (cell c .sr) () (amtOf .sr)) ∗ emp ∗ emp ∗ emp ∗ emp ∗ emp ∗ emp ∗ emp ∗ emp
      ∗ cred (tallyAt (cell c (.rcv 0)) () (amtOf (.rcv 0))) ∗ cred (tallyAt (cell c (.rcv 1)) () (amtOf (.rcv 1)))
      ∗ cred (tallyAt (cell c (.rcv 2)) () (amtOf (.rcv 2))) ∗ cred (tallyAt (cell c (.rcv 3)) () (amtOf (.rcv 3)))
      ∗ cred (tallyAt (cell c (.rcv 4)) () (amtOf (.rcv 4))) ∗ cred (tallyAt (cell c (.rcv 5)) () (amtOf (.rcv 5)))
      ∗ cred (tallyAt (cell c (.rcv 6)) () (amtOf (.rcv 6))) ∗ cred (tallyAt (cell c (.rcv 7)) () (amtOf (.rcv 7)))) := kd_chain _
theorem eight_chain (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem six_chain (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

variable (C : Sent F) (K : Dev nD × Kd → ℕ)

/-- The exchange's records that a device's body opens: its own cells, and the cells that it pays. -/
def recsOf (c : Dev nD) : sProp 𝕄 :=
  iprop(bigSep Finset.univ (fun κ : Kd => cellInv EX (rd C) (K (c, κ)) (cell c κ))
    ∗ bigSep Finset.univ (fun κ : Kd => cellInv EX (rd C) (K (payer c κ, κ)) (cell (payer c κ) κ))
    ∗ bigSep Finset.univ (fun κ : Kd => reached EX (cell (payer c κ) κ) 0))

/-- The exchange's tokens that a device's body spends. -/
def toksOf (c : Dev nD) : sProp 𝕄 :=
  iprop(bigSep Finset.univ (fun κ : Kd => dutyTok EX (cell (payer c κ) κ) 0 ())
    ∗ bigSep Finset.univ (fun κ : Kd => atPos EX (cell c κ) 0 ∅ 0))

/-- The scratch buffers, over some contents. -/
def scratch (c : Dev nD) : sProp 𝕄 :=
  iprop(bigSep Finset.univ (fun k : Fin 8 => iprop(∃ f : Buf (Elt F) ((rxS k).view.loc (c : Thread nD τ)), ((rxS k).view.loc (c : Thread nD τ) ↦[(rxS k).view.set]{fullShare} f)))
    ∗ bigSep Finset.univ (fun k : Fin 8 => iprop(∃ f : Buf (Elt F) ((lgS k).view.loc (c : Thread nD τ)), ((lgS k).view.loc (c : Thread nD τ) ↦[(lgS k).view.set]{fullShare} f)))
    ∗ (∃ f : Buf (Elt F) (srM.view.loc (c : Thread nD τ)), (srM.view.loc (c : Thread nD τ) ↦{fullShare} f))
    ∗ (∃ f : Buf (Elt F) (wbM.view.loc (c : Thread nD τ)), (wbM.view.loc (c : Thread nD τ) ↦{fullShare} f))
    ∗ (∃ f : Buf (Elt F) (lsM.view.loc (c : Thread nD τ)), (lsM.view.loc (c : Thread nD τ) ↦{fullShare} f))
    ∗ (∃ f : Buf (Elt F) (rsM.view.loc (c : Thread nD τ)), (rsM.view.loc (c : Thread nD τ) ↦{fullShare} f))
    ∗ (∃ f : Buf (Elt F) (ssM.view.loc (c : Thread nD τ)), (ssM.view.loc (c : Thread nD τ) ↦{fullShare} f)))

/-- The semaphores of the local copies, at zero. -/
def localSems (c : Dev nD) : sProp 𝕄 :=
  iprop(semVal ((c : Thread nD τ), .dma (⟨1, by decide⟩ : DmaSem sig)) 0 ∗ semVal ((c : Thread nD τ), .dma (⟨2, by decide⟩ : DmaSem sig)) 0
    ∗ semVal ((c : Thread nD τ), .dma (⟨3, by decide⟩ : DmaSem sig)) 0 ∗ semVal ((c : Thread nD τ), .dma (⟨4, by decide⟩ : DmaSem sig)) 0
    ∗ semVal ((c : Thread nD τ), .dma (⟨5, by decide⟩ : DmaSem sig)) 0 ∗ semVal ((c : Thread nD τ), .dma (⟨6, by decide⟩ : DmaSem sig)) 0)

/-- What a device's body starts from. -/
def bodyIn (c : Dev nD) (xs : Buf (Elt F) (xM.view.loc (c : Thread nD τ))) (W0 : Buf (Elt F) (WM.view.loc (c : Thread nD τ)))
    (vo : Buf (Elt F) (outM.view.loc (c : Thread nD τ))) (W : Waits sig Unit) : sProp 𝕄 :=
  iprop(levAts L lv ∗ recsOf C K c ∗ toksOf c ∗ bigSep Finset.univ (credK c)
    ∗ owes (c : Thread nD τ) (due c .sr + due c (.rcv 1) + due c (.rcv 2) + due c (.rcv 3) + due c (.rcv 4) + due c (.rcv 5) + due c (.rcv 6) + due c (.rcv 7) + due c (.rcv 0) + tallyAt (cell (peer c) .bar) () 1) W
    ∗ scratch c ∗ localSems c
    ∗ (xM.view.loc (c : Thread nD τ) ↦{fullShare} xs) ∗ (WM.view.loc (c : Thread nD τ) ↦{fullShare} W0)
    ∗ (outM.view.loc (c : Thread nD τ) ↦{fullShare} vo))

/-- What a device's body leaves. -/
def bodyOut (c : Dev nD) (xs : Buf (Elt F) (xM.view.loc (c : Thread nD τ))) (W0 : Buf (Elt F) (WM.view.loc (c : Thread nD τ)))
    (vo : Buf (Elt F) (outM.view.loc (c : Thread nD τ))) : sProp 𝕄 :=
  iprop(scratch c ∗ localSems c ∗ bigSep Finset.univ (fun κ : Kd => semVal (cell c κ) 0)
    ∗ (∃ W : Waits sig Unit, owes (c : Thread nD τ) 0 W)
    ∗ (xM.view.loc (c : Thread nD τ) ↦{fullShare} xs) ∗ (WM.view.loc (c : Thread nD τ) ↦{fullShare} W0)
    ∗ (outM.view.loc (c : Thread nD τ) ↦{fullShare} vo))

/-- The cells close after their one round: their counters at zero are the device's again. -/
theorem close_all (c : Dev nD) :
    iprop(bigSep Finset.univ (fun κ : Kd => cellInv EX (rd C) (K (c, κ)) (cell c κ)) ∗ bigSep Finset.univ (fun κ : Kd => atPos EX (cell c κ) 1 ∅ 0))
      ⊢ (|={Set.univ}=> bigSep Finset.univ (fun κ : Kd => semVal (cell c κ) 0) : sProp 𝕄) := by
  rw [← bigSep_sep']
  refine (bigSep_mono fun κ _ => ?_).trans (bigSep_fupd _ _)
  exact Rounds.cell_close EX (rd C) (Set.mem_univ (K (c, κ))) (fun h => h) (R := 1) (duties_later C (cell c κ))

/-- A chunk's two halves are the chunk. -/
theorem lg_whole (c : Dev nD) (k : Fin 8) (f : Buf (Elt F) ((lgS k).view.loc (c : Thread nD τ))) :
    ((lgS k).view.loc (c : Thread nD τ) ↦[(lgS k).view.set]{fullShare.left} f : sProp 𝕄)
      ⊢ iprop(((lgS k).view.loc (c : Thread nD τ) ↦[(lgS k).view.set]{fullShare.right} f)
        -∗ ∃ f : Buf (Elt F) ((lgS k).view.loc (c : Thread nD τ)), ((lgS k).view.loc (c : Thread nD τ) ↦[(lgS k).view.set]{fullShare} f)) := by
  iintro H1 H2
  icombine H1 H2 as H
  iexists f
  iexact H

theorem kd_intro (Φ : Kd → sProp 𝕄) : Φ .bar ⊢ iprop(Φ .ss -∗ Φ .sr -∗ Φ (.snd 0) -∗ Φ (.snd 1) -∗ Φ (.snd 2) -∗ Φ (.snd 3) -∗ Φ (.snd 4) -∗ Φ (.snd 5)
    -∗ Φ (.snd 6) -∗ Φ (.snd 7) -∗ Φ (.rcv 0) -∗ Φ (.rcv 1) -∗ Φ (.rcv 2) -∗ Φ (.rcv 3) -∗ Φ (.rcv 4) -∗ Φ (.rcv 5) -∗ Φ (.rcv 6) -∗ Φ (.rcv 7)
    -∗ bigSep Finset.univ Φ) := by
  rw [kd_chain]
  iintro H0 H1 H2 H3 H4 H5 H6 H7 H8 H9 H10 H11 H12 H13 H14 H15 H16 H17 H18
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem eight_intro (Φ : Fin 8 → sProp 𝕄) : Φ 0 ⊢ iprop(Φ 1 -∗ Φ 2 -∗ Φ 3 -∗ Φ 4 -∗ Φ 5 -∗ Φ 6 -∗ Φ 7 -∗ bigSep Finset.univ Φ) := by
  rw [eight_chain]
  iintro H0 H1 H2 H3 H4 H5 H6 H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem rx_some (c : Dev nD) (k : Fin 8) (f : Buf (Elt F) ((rxS k).view.loc (c : Thread nD τ))) :
    ((rxS k).view.loc (c : Thread nD τ) ↦[(rxS k).view.set]{fullShare} f : sProp 𝕄)
      ⊢ iprop(∃ f : Buf (Elt F) ((rxS k).view.loc (c : Thread nD τ)), ((rxS k).view.loc (c : Thread nD τ) ↦[(rxS k).view.set]{fullShare} f)) := by
  iintro H; iexists f; iexact H

theorem scratch_back (c : Dev nD) (f9 : Buf (Elt F) (srM.view.loc (c : Thread nD τ))) (f5 : Buf (Elt F) (wbM.view.loc (c : Thread nD τ)))
    (f6 : Buf (Elt F) (lsM.view.loc (c : Thread nD τ))) (f7 : Buf (Elt F) (rsM.view.loc (c : Thread nD τ)))
    (f8 : Buf (Elt F) (ssM.view.loc (c : Thread nD τ))) :
    bigSep Finset.univ (fun k : Fin 8 => iprop(∃ f : Buf (Elt F) ((rxS k).view.loc (c : Thread nD τ)), ((rxS k).view.loc (c : Thread nD τ) ↦[(rxS k).view.set]{fullShare} f)))
      ⊢ iprop(bigSep Finset.univ (fun k : Fin 8 => iprop(∃ f : Buf (Elt F) ((lgS k).view.loc (c : Thread nD τ)), ((lgS k).view.loc (c : Thread nD τ) ↦[(lgS k).view.set]{fullShare} f)))
        -∗ (srM.view.loc (c : Thread nD τ) ↦{fullShare} f9) -∗ (wbM.view.loc (c : Thread nD τ) ↦{fullShare} f5) -∗ (lsM.view.loc (c : Thread nD τ) ↦{fullShare} f6)
        -∗ (rsM.view.loc (c : Thread nD τ) ↦{fullShare} f7) -∗ (ssM.view.loc (c : Thread nD τ) ↦{fullShare} f8) -∗ (scratch c : sProp 𝕄)) := by
  unfold scratch
  iintro H1 H2 H3 H4 H5 H6 H7
  isplitl [H1]; · iexact H1
  isplitl [H2]; · iexact H2
  isplitl [H3]; · iexists f9; iexact H3
  isplitl [H4]; · iexists f5; iexact H4
  isplitl [H5]; · iexists f6; iexact H5
  isplitl [H6]; · iexists f7; iexact H6
  iexists f8; iexact H7

theorem localSems_intro (c : Dev nD) : (semVal ((c : Thread nD τ), .dma (⟨1, by decide⟩ : DmaSem sig)) 0 : sProp 𝕄)
    ⊢ iprop(semVal ((c : Thread nD τ), .dma (⟨2, by decide⟩ : DmaSem sig)) 0 -∗ semVal ((c : Thread nD τ), .dma (⟨3, by decide⟩ : DmaSem sig)) 0
      -∗ semVal ((c : Thread nD τ), .dma (⟨4, by decide⟩ : DmaSem sig)) 0 -∗ semVal ((c : Thread nD τ), .dma (⟨5, by decide⟩ : DmaSem sig)) 0
      -∗ semVal ((c : Thread nD τ), .dma (⟨6, by decide⟩ : DmaSem sig)) 0 -∗ localSems c) := by
  unfold localSems
  iintro H1 H2 H3 H4 H5 H6
  isplitl [H1]; · iexact H1
  isplitl [H2]; · iexact H2
  isplitl [H3]; · iexact H3
  isplitl [H4]; · iexact H4
  isplitl [H5]; · iexact H5
  iexact H6

theorem owes_some (c : Dev nD) (W : Waits sig Unit) : (owes (c : Thread nD τ) 0 W : sProp 𝕄) ⊢ iprop(∃ W : Waits sig Unit, owes (c : Thread nD τ) 0 W) := by
  iintro H; iexists W; iexact H

end Cert.Exchange
-- ==== Proof.Left.lean ====
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

attribute [local sl_rounds] duties_cell amount_cell expect_cell payload_bar payload_ss payload_sr payload_snd payload_rcv
attribute [local sl_rounds high] payload_bar_peer payload_rcv_peer payload_sr_peer

theorem dev2_eq (c : Dev nD) (h : k0_cond1 c = 1#1) : (⟨k0_dev2 c, k0_dev2_lt c h⟩ : Dev nD) = peer c := Fin.ext (k0_dev2_eq c)
theorem dev3_eq (c : Dev nD) (h : k0_cond1 c = 1#1) : (⟨k0_dev3 c, k0_dev3_lt c h⟩ : Dev nD) = peer c := Fin.ext (k0_dev3_eq c)
theorem dev4_eq (c : Dev nD) (h : k0_cond1 c = 1#1) : (⟨k0_dev4 c, k0_dev4_lt c h⟩ : Dev nD) = peer c := Fin.ext (k0_dev4_eq c)
theorem dev5_eq (c : Dev nD) (h : k0_cond1 c = 1#1) : (⟨k0_dev5 c, k0_dev5_lt c h⟩ : Dev nD) = peer c := Fin.ext (k0_dev5_eq c)
theorem dev6_eq (c : Dev nD) (h : k0_cond1 c = 1#1) : (⟨k0_dev6 c, k0_dev6_lt c h⟩ : Dev nD) = peer c := Fin.ext (k0_dev6_eq c)
theorem dev7_eq (c : Dev nD) (h : k0_cond1 c = 1#1) : (⟨k0_dev7 c, k0_dev7_lt c h⟩ : Dev nD) = peer c := Fin.ext (k0_dev7_eq c)
theorem dev8_eq (c : Dev nD) (h : k0_cond1 c = 1#1) : (⟨k0_dev8 c, k0_dev8_lt c h⟩ : Dev nD) = peer c := Fin.ext (k0_dev8_eq c)
theorem dev9_eq (c : Dev nD) (h : k0_cond1 c = 1#1) : (⟨k0_dev9 c, k0_dev9_lt c h⟩ : Dev nD) = peer c := Fin.ext (k0_dev9_eq c)
theorem dev10_eq (c : Dev nD) (h : k0_cond1 c = 1#1) : (⟨k0_dev10 c, k0_dev10_lt c h⟩ : Dev nD) = peer c := Fin.ext (k0_dev10_eq c)

variable (C : Sent F) (K : Dev nD × Kd → ℕ)

set_option maxHeartbeats 40000000 in
set_option sl_exec.dmaWindow true in
/-- The body on a device of the first half of the axis. -/
theorem body_left (c : Dev nD) (h1 : k0_cond1 c = 1#1) (h2 : ¬ k0_cond2 c = 1#1)
    (xs : Buf (Elt F) (xM.view.loc (c : Thread nD τ))) (W0 : Buf (Elt F) (WM.view.loc (c : Thread nD τ)))
    (vo : Buf (Elt F) (outM.view.loc (c : Thread nD τ)))
    (hlg : ∀ k, C.lg c k = lgB (xL xs) (wL W0 k))
    (hmx : C.mx c = k0_pay37 (mAt (xL xs) (wN W0) 6) (lgF (xL xs) (wN W0 7)))
    (hsx : C.sx c = k0_pay38 (mAt (xL xs) (wN W0) 6) (sAt (xL xs) (wN W0) 6) (lgF (xL xs) (wN W0 7)))
    (W : Waits sig Unit) (Q : PUnit → sProp 𝕄) :
    iprop(bodyIn C K c xs W0 vo W
        ∗ (bodyOut c xs W0 (outOf (chunksL (bV (mAt (xL xs) (wN W0) 7) (sAt (xL xs) (wN W0) 7) (C.mx (peer c)) (C.sx (peer c))) (C.lg c) (C.lg (peer c)))) -∗ Q ⟨⟩))
      ⊢ wp frame (wpE defs₀ Variants.none (c : Thread nD τ) none) Set.univ (bodyAt0 (F := F) t0_0) Q := by
  unfold bodyIn recsOf toksOf scratch localSems
  rw [payer_chain c (fun d κ => cellInv EX (rd C) (K (d, κ)) (cell d κ)), payer_chain c (fun d κ => reached EX (cell d κ) 0),
    payer_chain c (fun d κ => dutyTok EX (cell d κ) 0 ()), cred_chain, kd_chain (fun κ => atPos EX (cell c κ) 0 ∅ 0), eight_chain, eight_chain]
  iintro ⟨⟨#Hlev, ⟨#HI,
    ⟨#HJbar, -, #HJsr, -, -, -, -, -, -, -, -, #HJrcv0, #HJrcv1, #HJrcv2, #HJrcv3, #HJrcv4, #HJrcv5, #HJrcv6, #HJrcv7⟩,
    ⟨#HRbar, #HRss, #HRsr, #HRsnd0, #HRsnd1, #HRsnd2, #HRsnd3, #HRsnd4, #HRsnd5, #HRsnd6, #HRsnd7, #HRrcv0, #HRrcv1, #HRrcv2, #HRrcv3, #HRrcv4, #HRrcv5, #HRrcv6, #HRrcv7⟩⟩,
    ⟨⟨Htbar, Htss, Htsr, Htsnd0, Htsnd1, Htsnd2, Htsnd3, Htsnd4, Htsnd5, Htsnd6, Htsnd7, Htrcv0, Htrcv1, Htrcv2, Htrcv3, Htrcv4, Htrcv5, Htrcv6, Htrcv7⟩,
    ⟨Hatbar, Hatss, Hatsr, Hatsnd0, Hatsnd1, Hatsnd2, Hatsnd3, Hatsnd4, Hatsnd5, Hatsnd6, Hatsnd7, Hatrcv0, Hatrcv1, Hatrcv2, Hatrcv3, Hatrcv4, Hatrcv5, Hatrcv6, Hatrcv7⟩⟩,
    ⟨Hcbar, -, Hcsr, -, -, -, -, -, -, -, -, Hcrcv0, Hcrcv1, Hcrcv2, Hcrcv3, Hcrcv4, Hcrcv5, Hcrcv6, Hcrcv7⟩, HO,
    ⟨⟨⟨%a0, Hx0⟩, ⟨%a1, Hx1⟩, ⟨%a2, Hx2⟩, ⟨%a3, Hx3⟩, ⟨%a4, Hx4⟩, ⟨%a5, Hx5⟩, ⟨%a6, Hx6⟩, ⟨%a7, Hx7⟩⟩, ⟨⟨%l0, Hl0⟩, ⟨%l1, Hl1⟩, ⟨%l2, Hl2⟩, ⟨%l3, Hl3⟩, ⟨%l4, Hl4⟩, ⟨%l5, Hl5⟩, ⟨%l6, Hl6⟩, ⟨%l7, Hl7⟩⟩,
    ⟨%b9, Hsr⟩, ⟨%b5, Hwb⟩, ⟨%b6, Hls⟩, ⟨%b7, Hrs⟩, ⟨%b8, Hss⟩⟩,
    ⟨Hs1, Hs2, Hs3, Hs4, Hs5, Hs6⟩, Hx, HW, Hout⟩, Hk⟩
  ihave HI' := (Entails.of_eq (kd_chain (fun κ : Kd => cellInv EX (rd C) (K (c, κ)) (cell c κ)))) $$ HI
  icases HI' with ⟨#HIbar, #HIss, #HIsr, #HIsnd0, #HIsnd1, #HIsnd2, #HIsnd3, #HIsnd4, #HIsnd5, #HIsnd6, #HIsnd7, #HIrcv0, #HIrcv1, #HIrcv2, #HIrcv3, #HIrcv4, #HIrcv5, #HIrcv6, #HIrcv7⟩
  have hd1 := dev1_eq c
  have hd2 := dev2_eq c h1
  have hd3 := dev3_eq c h1
  have hd4 := dev4_eq c h1
  have hd5 := dev5_eq c h1
  have hd6 := dev6_eq c h1
  have hd7 := dev7_eq c h1
  have hd8 := dev8_eq c h1
  have hd9 := dev9_eq c h1
  have hd10 := dev10_eq c h1
  have hmb := mayWait_of_above (F := F) c (semOf .bar) 1 (by decide) (due c .sr + due c (.rcv 1) + due c (.rcv 2) + due c (.rcv 3) + due c (.rcv 4) + due c (.rcv 5) + due c (.rcv 6) + due c (.rcv 7) + due c (.rcv 0)) (above_O₁ c)
  have hm1 := mayWait_of_above (F := F) c (.dma (1 : DmaSem sig)) 1 (by decide) (due c .sr + due c (.rcv 1) + due c (.rcv 2) + due c (.rcv 3) + due c (.rcv 4) + due c (.rcv 5) + due c (.rcv 6) + due c (.rcv 7) + due c (.rcv 0)) (above_O₁ c)
  have hm1' := mayWait_of_above (F := F) c (.dma (1 : DmaSem sig)) 1 (by decide) (due c .sr + due c (.rcv 1) + due c (.rcv 2) + due c (.rcv 3) + due c (.rcv 4) + due c (.rcv 5) + due c (.rcv 6) + due c (.rcv 7)) (above_O₂ c)
  have hm2' := mayWait_of_above (F := F) c (.dma (2 : DmaSem sig)) 1 (by decide) (due c .sr + due c (.rcv 1) + due c (.rcv 2) + due c (.rcv 3) + due c (.rcv 4) + due c (.rcv 5) + due c (.rcv 6) + due c (.rcv 7)) (above_O₂ c)
  have hw0 : ∀ (b : wbM.view.ty.Contents (Elt F)) X Y, wbM.view.readAt (Elt F) (Rect.unit (s := S2x1024x1024) ![0, 0, 0] S1x1024x1024.size inb_S2x1024x1024_S1x1024x1024_0_0_0).toLoadRect
    ((wbS 1).view.write (Elt F) ((wbS 0).view.write (Elt F) b X Finset.univ) Y Finset.univ) = wR 0 X :=
    fun b X Y => (wR_other 0 1 (by decide) _ Y).trans (wR_eq 0 b X)
  have hw1 : ∀ (b : wbM.view.ty.Contents (Elt F)) X Y, wbM.view.readAt (Elt F) (Rect.unit (s := S2x1024x1024) ![1, 0, 0] S1x1024x1024.size inb_S2x1024x1024_S1x1024x1024_1_0_0).toLoadRect
    ((wbS 0).view.write (Elt F) ((wbS 1).view.write (Elt F) b X Finset.univ) Y Finset.univ) = wR 1 X :=
    fun b X Y => (wR_other 1 0 (by decide) _ Y).trans (wR_eq 1 b X)
  have hw1' : ∀ (b : wbM.view.ty.Contents (Elt F)) X, wbM.view.readAt (Elt F) (Rect.unit (s := S2x1024x1024) ![1, 0, 0] S1x1024x1024.size inb_S2x1024x1024_S1x1024x1024_1_0_0).toLoadRect
    ((wbS 1).view.write (Elt F) b X Finset.univ) = wR 1 X := fun b X => wR_eq 1 b X
  set_option sl_exec.stopBefore "k0_part2" in
  sl_exec
  clear hmb
  ihave Hl0' := (lg_share C c 0 _ (by rw [hlg]; exact lg_read 0 _ _)) $$ Hl0
  icases Hl0' with ⟨Hl0, Hl0r⟩
  set_option sl_exec.stopBefore "k0_part8" in
  sl_exec
  ihave Hl1' := (lg_share C c 1 _ (by rw [hlg]; exact lg_read 1 _ _)) $$ Hl1
  icases Hl1' with ⟨Hl1, Hl1r⟩
  ihave Hl2' := (lg_share C c 2 _ (by rw [hlg]; exact lg_read 2 _ _)) $$ Hl2
  icases Hl2' with ⟨Hl2, Hl2r⟩
  ihave Hl3' := (lg_share C c 3 _ (by rw [hlg]; exact lg_read 3 _ _)) $$ Hl3
  icases Hl3' with ⟨Hl3, Hl3r⟩
  ihave Hl4' := (lg_share C c 4 _ (by rw [hlg]; exact lg_read 4 _ _)) $$ Hl4
  icases Hl4' with ⟨Hl4, Hl4r⟩
  ihave Hl5' := (lg_share C c 5 _ (by rw [hlg]; exact lg_read 5 _ _)) $$ Hl5
  icases Hl5' with ⟨Hl5, Hl5r⟩
  ihave Hl6' := (lg_share C c 6 _ (by rw [hlg]; exact lg_read 6 _ _)) $$ Hl6
  icases Hl6' with ⟨Hl6, Hl6r⟩
  set_option sl_exec.stopBefore "k0_part9" in
  sl_exec
  ihave Hss' := (stat_pts C c _ _ _ (by rw [hmx]; rfl) (by rw [hsx]; rfl)) $$ Hss
  set_option sl_exec.stopBefore "k0_part9" in
  sl_exec
  ihave Hl7' := (lg_share C c 7 _ (by rw [hlg]; exact lg_read 7 _ _)) $$ Hl7
  icases Hl7' with ⟨Hl7, Hl7r⟩
  set_option sl_exec.stopBefore "" in
  sl_exec
  ihave HO' := (owes_some c _) $$ HO
  ihave Hat := (kd_intro (fun κ : Kd => atPos EX (cell c κ) 1 ∅ 0)) $$ Hatbar Hatss Hatsr Hatsnd0 Hatsnd1 Hatsnd2 Hatsnd3 Hatsnd4 Hatsnd5 Hatsnd6 Hatsnd7 Hatrcv0 Hatrcv1 Hatrcv2 Hatrcv3 Hatrcv4 Hatrcv5 Hatrcv6 Hatrcv7
  imod (close_all C K c) $$ [Hat] with Hz
  · isplitr [Hat]
    · iexact HI
    · iexact Hat
  ihave Hg0 := (lg_whole c 0 _) $$ Hatsnd0_pay1 Hl0r
  ihave Hg1 := (lg_whole c 1 _) $$ Hatsnd1_pay1 Hl1r
  ihave Hg2 := (lg_whole c 2 _) $$ Hatsnd2_pay1 Hl2r
  ihave Hg3 := (lg_whole c 3 _) $$ Hatsnd3_pay1 Hl3r
  ihave Hg4 := (lg_whole c 4 _) $$ Hatsnd4_pay1 Hl4r
  ihave Hg5 := (lg_whole c 5 _) $$ Hatsnd5_pay1 Hl5r
  ihave Hg6 := (lg_whole c 6 _) $$ Hatsnd6_pay1 Hl6r
  ihave Hg7 := (lg_whole c 7 _) $$ Hatsnd7_pay1 Hl7r
  ihave Hr0 := (rx_some c 0 _) $$ Hatrcv0_pay1
  ihave Hr1 := (rx_some c 1 _) $$ Hatrcv1_pay1
  ihave Hr2 := (rx_some c 2 _) $$ Hatrcv2_pay1
  ihave Hr3 := (rx_some c 3 _) $$ Hatrcv3_pay1
  ihave Hr4 := (rx_some c 4 _) $$ Hatrcv4_pay1
  ihave Hr5 := (rx_some c 5 _) $$ Hatrcv5_pay1
  ihave Hr6 := (rx_some c 6 _) $$ Hatrcv6_pay1
  ihave Hr7 := (rx_some c 7 _) $$ Hatrcv7_pay1
  ihave Hg := (eight_intro (fun k : Fin 8 => iprop(∃ f : Buf (Elt F) ((lgS k).view.loc (c : Thread nD τ)), ((lgS k).view.loc (c : Thread nD τ) ↦[(lgS k).view.set]{fullShare} f)))) $$ Hg0 Hg1 Hg2 Hg3 Hg4 Hg5 Hg6 Hg7
  ihave Hr := (eight_intro (fun k : Fin 8 => iprop(∃ f : Buf (Elt F) ((rxS k).view.loc (c : Thread nD τ)), ((rxS k).view.loc (c : Thread nD τ) ↦[(rxS k).view.set]{fullShare} f)))) $$ Hr0 Hr1 Hr2 Hr3 Hr4 Hr5 Hr6 Hr7
  ihave Hscr := (scratch_back c _ _ _ _ _) $$ Hr Hg Hatsr_pay1 Hwb Hls Hrs Hatss_pay1
  ihave Hsem := (localSems_intro c) $$ Hs1 Hs2 Hs3 Hs4 Hs5 Hs6
  have hb := b_eq C (peer c) (mAt (xL xs) (wN W0) 7) (sAt (xL xs) (wN W0) 7) Hatsr_pay1_v
  ihave Hout' := (out_pts c (chunksL (bV (mAt (xL xs) (wN W0) 7) (sAt (xL xs) (wN W0) 7) (C.mx (peer c)) (C.sx (peer c))) (C.lg c) (C.lg (peer c))) vo [15, 14, 13, 12, 11, 10, 9, 8, 7, 6, 5, 4, 3, 2, 1, 0] (by decide) _) $$ Hout
  rw [wp_ret]
  imodintro
  iapply Hk
  unfold bodyOut
  isplitl [Hscr]; · iexact Hscr
  isplitl [Hsem]; · iexact Hsem
  isplitl [Hz]; · iexact Hz
  isplitl [HO']; · iexact HO'
  isplitl [Hx]; · iexact Hx
  isplitl [HW]; · iexact HW
  iapply Hout'
  ipureintro
  exact
    piece_cons (rs_out 1 _ _ _ _ _ _ hb (rx_load 7 _ _)) (
    piece_cons (rs_out 0 _ _ _ _ _ _ hb (rx_load 6 _ _)) (
    piece_cons (rs_out 1 _ _ _ _ _ _ hb (rx_load 5 _ _)) (
    piece_cons (rs_out 0 _ _ _ _ _ _ hb (rx_load 4 _ _)) (
    piece_cons (rs_out 1 _ _ _ _ _ _ hb (rx_load 3 _ _)) (
    piece_cons (rs_out 0 _ _ _ _ _ _ hb (rx_load 2 _ _)) (
    piece_cons (rs_out 1 _ _ _ _ _ _ hb (rx_load 1 _ _)) (
    piece_cons (rs_out 0 _ _ _ _ _ _ hb (rx_load 0 _ _)) (
    piece_cons (ls_out 1 _ _ _ _ _ _ hb (lg_load 7 _)) (
    piece_cons (ls_out 0 _ _ _ _ _ _ hb (lg_load 6 _)) (
    piece_cons (ls_out 1 _ _ _ _ _ _ hb (lg_load 5 _)) (
    piece_cons (ls_out 0 _ _ _ _ _ _ hb (lg_load 4 _)) (
    piece_cons (ls_out 1 _ _ _ _ _ _ hb (lg_load 3 _)) (
    piece_cons (ls_out 0 _ _ _ _ _ _ hb (lg_load 2 _)) (
    piece_cons (ls_out 1 _ _ _ _ _ _ hb (lg_load 1 _)) (
    piece_cons (ls_out 0 _ _ _ _ _ _ hb (lg_load 0 _)) rfl)))))))))))))))

end Cert.Exchange
-- ==== Proof.Right.lean ====
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

attribute [local sl_rounds] duties_cell amount_cell expect_cell payload_bar payload_ss payload_sr payload_snd payload_rcv
attribute [local sl_rounds high] payload_bar_peer payload_rcv_peer payload_sr_peer

theorem dev11_eq (c : Dev nD) (h : k0_cond2 c = 1#1) : (⟨k0_dev11 c, k0_dev11_lt c h⟩ : Dev nD) = peer c := Fin.ext (k0_dev11_eq c)
theorem dev12_eq (c : Dev nD) (h : k0_cond2 c = 1#1) : (⟨k0_dev12 c, k0_dev12_lt c h⟩ : Dev nD) = peer c := Fin.ext (k0_dev12_eq c)
theorem dev13_eq (c : Dev nD) (h : k0_cond2 c = 1#1) : (⟨k0_dev13 c, k0_dev13_lt c h⟩ : Dev nD) = peer c := Fin.ext (k0_dev13_eq c)
theorem dev14_eq (c : Dev nD) (h : k0_cond2 c = 1#1) : (⟨k0_dev14 c, k0_dev14_lt c h⟩ : Dev nD) = peer c := Fin.ext (k0_dev14_eq c)
theorem dev15_eq (c : Dev nD) (h : k0_cond2 c = 1#1) : (⟨k0_dev15 c, k0_dev15_lt c h⟩ : Dev nD) = peer c := Fin.ext (k0_dev15_eq c)
theorem dev16_eq (c : Dev nD) (h : k0_cond2 c = 1#1) : (⟨k0_dev16 c, k0_dev16_lt c h⟩ : Dev nD) = peer c := Fin.ext (k0_dev16_eq c)
theorem dev17_eq (c : Dev nD) (h : k0_cond2 c = 1#1) : (⟨k0_dev17 c, k0_dev17_lt c h⟩ : Dev nD) = peer c := Fin.ext (k0_dev17_eq c)
theorem dev18_eq (c : Dev nD) (h : k0_cond2 c = 1#1) : (⟨k0_dev18 c, k0_dev18_lt c h⟩ : Dev nD) = peer c := Fin.ext (k0_dev18_eq c)
theorem dev19_eq (c : Dev nD) (h : k0_cond2 c = 1#1) : (⟨k0_dev19 c, k0_dev19_lt c h⟩ : Dev nD) = peer c := Fin.ext (k0_dev19_eq c)

variable (C : Sent F) (K : Dev nD × Kd → ℕ)

set_option maxHeartbeats 40000000 in
set_option sl_exec.dmaWindow true in
/-- The body on a device of the second half of the axis. -/
theorem body_right (c : Dev nD) (h1 : ¬ k0_cond1 c = 1#1) (h2 : k0_cond2 c = 1#1)
    (xs : Buf (Elt F) (xM.view.loc (c : Thread nD τ))) (W0 : Buf (Elt F) (WM.view.loc (c : Thread nD τ)))
    (vo : Buf (Elt F) (outM.view.loc (c : Thread nD τ)))
    (hlg : ∀ k, C.lg c k = lgB (xL xs) (wL W0 k))
    (hmx : C.mx c = k0_pay37 (mAt (xL xs) (wN W0) 6) (lgF (xL xs) (wN W0 7)))
    (hsx : C.sx c = k0_pay38 (mAt (xL xs) (wN W0) 6) (sAt (xL xs) (wN W0) 6) (lgF (xL xs) (wN W0 7)))
    (W : Waits sig Unit) (Q : PUnit → sProp 𝕄) :
    iprop(bodyIn C K c xs W0 vo W
        ∗ (bodyOut c xs W0 (outOf (chunksL (bV (mAt (xL xs) (wN W0) 7) (sAt (xL xs) (wN W0) 7) (C.mx (peer c)) (C.sx (peer c))) (C.lg (peer c)) (C.lg c))) -∗ Q ⟨⟩))
      ⊢ wp frame (wpE defs₀ Variants.none (c : Thread nD τ) none) Set.univ (bodyAt0 (F := F) t0_0) Q := by
  unfold bodyIn recsOf toksOf scratch localSems
  rw [payer_chain c (fun d κ => cellInv EX (rd C) (K (d, κ)) (cell d κ)), payer_chain c (fun d κ => reached EX (cell d κ) 0),
    payer_chain c (fun d κ => dutyTok EX (cell d κ) 0 ()), cred_chain, kd_chain (fun κ => atPos EX (cell c κ) 0 ∅ 0), eight_chain, eight_chain]
  iintro ⟨⟨#Hlev, ⟨#HI,
    ⟨#HJbar, -, #HJsr, -, -, -, -, -, -, -, -, #HJrcv0, #HJrcv1, #HJrcv2, #HJrcv3, #HJrcv4, #HJrcv5, #HJrcv6, #HJrcv7⟩,
    ⟨#HRbar, #HRss, #HRsr, #HRsnd0, #HRsnd1, #HRsnd2, #HRsnd3, #HRsnd4, #HRsnd5, #HRsnd6, #HRsnd7, #HRrcv0, #HRrcv1, #HRrcv2, #HRrcv3, #HRrcv4, #HRrcv5, #HRrcv6, #HRrcv7⟩⟩,
    ⟨⟨Htbar, Htss, Htsr, Htsnd0, Htsnd1, Htsnd2, Htsnd3, Htsnd4, Htsnd5, Htsnd6, Htsnd7, Htrcv0, Htrcv1, Htrcv2, Htrcv3, Htrcv4, Htrcv5, Htrcv6, Htrcv7⟩,
    ⟨Hatbar, Hatss, Hatsr, Hatsnd0, Hatsnd1, Hatsnd2, Hatsnd3, Hatsnd4, Hatsnd5, Hatsnd6, Hatsnd7, Hatrcv0, Hatrcv1, Hatrcv2, Hatrcv3, Hatrcv4, Hatrcv5, Hatrcv6, Hatrcv7⟩⟩,
    ⟨Hcbar, -, Hcsr, -, -, -, -, -, -, -, -, Hcrcv0, Hcrcv1, Hcrcv2, Hcrcv3, Hcrcv4, Hcrcv5, Hcrcv6, Hcrcv7⟩, HO,
    ⟨⟨⟨%a0, Hx0⟩, ⟨%a1, Hx1⟩, ⟨%a2, Hx2⟩, ⟨%a3, Hx3⟩, ⟨%a4, Hx4⟩, ⟨%a5, Hx5⟩, ⟨%a6, Hx6⟩, ⟨%a7, Hx7⟩⟩, ⟨⟨%l0, Hl0⟩, ⟨%l1, Hl1⟩, ⟨%l2, Hl2⟩, ⟨%l3, Hl3⟩, ⟨%l4, Hl4⟩, ⟨%l5, Hl5⟩, ⟨%l6, Hl6⟩, ⟨%l7, Hl7⟩⟩,
    ⟨%b9, Hsr⟩, ⟨%b5, Hwb⟩, ⟨%b6, Hls⟩, ⟨%b7, Hrs⟩, ⟨%b8, Hss⟩⟩,
    ⟨Hs1, Hs2, Hs3, Hs4, Hs5, Hs6⟩, Hx, HW, Hout⟩, Hk⟩
  ihave HI' := (Entails.of_eq (kd_chain (fun κ : Kd => cellInv EX (rd C) (K (c, κ)) (cell c κ)))) $$ HI
  icases HI' with ⟨#HIbar, #HIss, #HIsr, #HIsnd0, #HIsnd1, #HIsnd2, #HIsnd3, #HIsnd4, #HIsnd5, #HIsnd6, #HIsnd7, #HIrcv0, #HIrcv1, #HIrcv2, #HIrcv3, #HIrcv4, #HIrcv5, #HIrcv6, #HIrcv7⟩
  have hd1 := dev1_eq c
  have hd11 := dev11_eq c h2
  have hd12 := dev12_eq c h2
  have hd13 := dev13_eq c h2
  have hd14 := dev14_eq c h2
  have hd15 := dev15_eq c h2
  have hd16 := dev16_eq c h2
  have hd17 := dev17_eq c h2
  have hd18 := dev18_eq c h2
  have hd19 := dev19_eq c h2
  have hmb := mayWait_of_above (F := F) c (semOf .bar) 1 (by decide) (due c .sr + due c (.rcv 1) + due c (.rcv 2) + due c (.rcv 3) + due c (.rcv 4) + due c (.rcv 5) + due c (.rcv 6) + due c (.rcv 7) + due c (.rcv 0)) (above_O₁ c)
  have hm1 := mayWait_of_above (F := F) c (.dma (1 : DmaSem sig)) 1 (by decide) (due c .sr + due c (.rcv 1) + due c (.rcv 2) + due c (.rcv 3) + due c (.rcv 4) + due c (.rcv 5) + due c (.rcv 6) + due c (.rcv 7) + due c (.rcv 0)) (above_O₁ c)
  have hm1' := mayWait_of_above (F := F) c (.dma (1 : DmaSem sig)) 1 (by decide) (due c .sr + due c (.rcv 1) + due c (.rcv 2) + due c (.rcv 3) + due c (.rcv 4) + due c (.rcv 5) + due c (.rcv 6) + due c (.rcv 7)) (above_O₂ c)
  have hm2' := mayWait_of_above (F := F) c (.dma (2 : DmaSem sig)) 1 (by decide) (due c .sr + due c (.rcv 1) + due c (.rcv 2) + due c (.rcv 3) + due c (.rcv 4) + due c (.rcv 5) + due c (.rcv 6) + due c (.rcv 7)) (above_O₂ c)
  have hw0 : ∀ (b : wbM.view.ty.Contents (Elt F)) X Y, wbM.view.readAt (Elt F) (Rect.unit (s := S2x1024x1024) ![0, 0, 0] S1x1024x1024.size inb_S2x1024x1024_S1x1024x1024_0_0_0).toLoadRect
    ((wbS 1).view.write (Elt F) ((wbS 0).view.write (Elt F) b X Finset.univ) Y Finset.univ) = wR 0 X :=
    fun b X Y => (wR_other 0 1 (by decide) _ Y).trans (wR_eq 0 b X)
  have hw1 : ∀ (b : wbM.view.ty.Contents (Elt F)) X Y, wbM.view.readAt (Elt F) (Rect.unit (s := S2x1024x1024) ![1, 0, 0] S1x1024x1024.size inb_S2x1024x1024_S1x1024x1024_1_0_0).toLoadRect
    ((wbS 0).view.write (Elt F) ((wbS 1).view.write (Elt F) b X Finset.univ) Y Finset.univ) = wR 1 X :=
    fun b X Y => (wR_other 1 0 (by decide) _ Y).trans (wR_eq 1 b X)
  have hw1' : ∀ (b : wbM.view.ty.Contents (Elt F)) X, wbM.view.readAt (Elt F) (Rect.unit (s := S2x1024x1024) ![1, 0, 0] S1x1024x1024.size inb_S2x1024x1024_S1x1024x1024_1_0_0).toLoadRect
    ((wbS 1).view.write (Elt F) b X Finset.univ) = wR 1 X := fun b X => wR_eq 1 b X
  set_option sl_exec.stopBefore "k0_part27" in
  sl_exec
  clear hmb
  ihave Hl0' := (lg_share C c 0 _ (by rw [hlg]; exact lg_read 0 _ _)) $$ Hl0
  icases Hl0' with ⟨Hl0, Hl0r⟩
  set_option sl_exec.stopBefore "k0_part33" in
  sl_exec
  ihave Hl1' := (lg_share C c 1 _ (by rw [hlg]; exact lg_read 1 _ _)) $$ Hl1
  icases Hl1' with ⟨Hl1, Hl1r⟩
  ihave Hl2' := (lg_share C c 2 _ (by rw [hlg]; exact lg_read 2 _ _)) $$ Hl2
  icases Hl2' with ⟨Hl2, Hl2r⟩
  ihave Hl3' := (lg_share C c 3 _ (by rw [hlg]; exact lg_read 3 _ _)) $$ Hl3
  icases Hl3' with ⟨Hl3, Hl3r⟩
  ihave Hl4' := (lg_share C c 4 _ (by rw [hlg]; exact lg_read 4 _ _)) $$ Hl4
  icases Hl4' with ⟨Hl4, Hl4r⟩
  ihave Hl5' := (lg_share C c 5 _ (by rw [hlg]; exact lg_read 5 _ _)) $$ Hl5
  icases Hl5' with ⟨Hl5, Hl5r⟩
  ihave Hl6' := (lg_share C c 6 _ (by rw [hlg]; exact lg_read 6 _ _)) $$ Hl6
  icases Hl6' with ⟨Hl6, Hl6r⟩
  set_option sl_exec.stopBefore "k0_part34" in
  sl_exec
  ihave Hss' := (stat_pts C c _ _ _ (by rw [hmx]; rfl) (by rw [hsx]; rfl)) $$ Hss
  set_option sl_exec.stopBefore "k0_part34" in
  sl_exec
  ihave Hl7' := (lg_share C c 7 _ (by rw [hlg]; exact lg_read 7 _ _)) $$ Hl7
  icases Hl7' with ⟨Hl7, Hl7r⟩
  set_option sl_exec.stopBefore "" in
  sl_exec
  ihave HO' := (owes_some c _) $$ HO
  ihave Hat := (kd_intro (fun κ : Kd => atPos EX (cell c κ) 1 ∅ 0)) $$ Hatbar Hatss Hatsr Hatsnd0 Hatsnd1 Hatsnd2 Hatsnd3 Hatsnd4 Hatsnd5 Hatsnd6 Hatsnd7 Hatrcv0 Hatrcv1 Hatrcv2 Hatrcv3 Hatrcv4 Hatrcv5 Hatrcv6 Hatrcv7
  imod (close_all C K c) $$ [Hat] with Hz
  · isplitr [Hat]
    · iexact HI
    · iexact Hat
  ihave Hg0 := (lg_whole c 0 _) $$ Hatsnd0_pay1 Hl0r
  ihave Hg1 := (lg_whole c 1 _) $$ Hatsnd1_pay1 Hl1r
  ihave Hg2 := (lg_whole c 2 _) $$ Hatsnd2_pay1 Hl2r
  ihave Hg3 := (lg_whole c 3 _) $$ Hatsnd3_pay1 Hl3r
  ihave Hg4 := (lg_whole c 4 _) $$ Hatsnd4_pay1 Hl4r
  ihave Hg5 := (lg_whole c 5 _) $$ Hatsnd5_pay1 Hl5r
  ihave Hg6 := (lg_whole c 6 _) $$ Hatsnd6_pay1 Hl6r
  ihave Hg7 := (lg_whole c 7 _) $$ Hatsnd7_pay1 Hl7r
  ihave Hr0 := (rx_some c 0 _) $$ Hatrcv0_pay1
  ihave Hr1 := (rx_some c 1 _) $$ Hatrcv1_pay1
  ihave Hr2 := (rx_some c 2 _) $$ Hatrcv2_pay1
  ihave Hr3 := (rx_some c 3 _) $$ Hatrcv3_pay1
  ihave Hr4 := (rx_some c 4 _) $$ Hatrcv4_pay1
  ihave Hr5 := (rx_some c 5 _) $$ Hatrcv5_pay1
  ihave Hr6 := (rx_some c 6 _) $$ Hatrcv6_pay1
  ihave Hr7 := (rx_some c 7 _) $$ Hatrcv7_pay1
  ihave Hg := (eight_intro (fun k : Fin 8 => iprop(∃ f : Buf (Elt F) ((lgS k).view.loc (c : Thread nD τ)), ((lgS k).view.loc (c : Thread nD τ) ↦[(lgS k).view.set]{fullShare} f)))) $$ Hg0 Hg1 Hg2 Hg3 Hg4 Hg5 Hg6 Hg7
  ihave Hr := (eight_intro (fun k : Fin 8 => iprop(∃ f : Buf (Elt F) ((rxS k).view.loc (c : Thread nD τ)), ((rxS k).view.loc (c : Thread nD τ) ↦[(rxS k).view.set]{fullShare} f)))) $$ Hr0 Hr1 Hr2 Hr3 Hr4 Hr5 Hr6 Hr7
  ihave Hscr := (scratch_back c _ _ _ _ _) $$ Hr Hg Hatsr_pay1 Hwb Hls Hrs Hatss_pay1
  ihave Hsem := (localSems_intro c) $$ Hs1 Hs2 Hs3 Hs4 Hs5 Hs6
  have hb := b_eq C (peer c) (mAt (xL xs) (wN W0) 7) (sAt (xL xs) (wN W0) 7) Hatsr_pay1_v
  ihave Hout' := (out_pts c (chunksL (bV (mAt (xL xs) (wN W0) 7) (sAt (xL xs) (wN W0) 7) (C.mx (peer c)) (C.sx (peer c))) (C.lg (peer c)) (C.lg c)) vo [7, 6, 5, 4, 3, 2, 1, 0, 15, 14, 13, 12, 11, 10, 9, 8] (by decide) _) $$ Hout
  rw [wp_ret]
  imodintro
  iapply Hk
  unfold bodyOut
  isplitl [Hscr]; · iexact Hscr
  isplitl [Hsem]; · iexact Hsem
  isplitl [Hz]; · iexact Hz
  isplitl [HO']; · iexact HO'
  isplitl [Hx]; · iexact Hx
  isplitl [HW]; · iexact HW
  iapply Hout'
  ipureintro
  exact
    piece_cons (rs_out 1 _ _ _ _ _ _ hb (rx_load 7 _ _)) (
    piece_cons (rs_out 0 _ _ _ _ _ _ hb (rx_load 6 _ _)) (
    piece_cons (rs_out 1 _ _ _ _ _ _ hb (rx_load 5 _ _)) (
    piece_cons (rs_out 0 _ _ _ _ _ _ hb (rx_load 4 _ _)) (
    piece_cons (rs_out 1 _ _ _ _ _ _ hb (rx_load 3 _ _)) (
    piece_cons (rs_out 0 _ _ _ _ _ _ hb (rx_load 2 _ _)) (
    piece_cons (rs_out 1 _ _ _ _ _ _ hb (rx_load 1 _ _)) (
    piece_cons (rs_out 0 _ _ _ _ _ _ hb (rx_load 0 _ _)) (
    piece_cons (ls_out 1 _ _ _ _ _ _ hb (lg_load 7 _)) (
    piece_cons (ls_out 0 _ _ _ _ _ _ hb (lg_load 6 _)) (
    piece_cons (ls_out 1 _ _ _ _ _ _ hb (lg_load 5 _)) (
    piece_cons (ls_out 0 _ _ _ _ _ _ hb (lg_load 4 _)) (
    piece_cons (ls_out 1 _ _ _ _ _ _ hb (lg_load 3 _)) (
    piece_cons (ls_out 0 _ _ _ _ _ _ hb (lg_load 2 _)) (
    piece_cons (ls_out 1 _ _ _ _ _ _ hb (lg_load 1 _)) (
    piece_cons (ls_out 0 _ _ _ _ _ _ hb (lg_load 0 _)) rfl)))))))))))))))

end Cert.Exchange
-- ==== Proof.Ghost.lean ====
/-
The launch, apart from the run of the bodies: the exchange's ghost state made for all devices at once and dealt to
each, and the credit that comes with what the devices owe at launch.
-/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The semaphores -/

/-- The kernel's own semaphores: all the DMA semaphores but the staging one. -/
def osem : Fin 24 → SemLoc sig := fun i => .dma (⟨i.val + 1, by have := i.isLt; simp only [sig]; omega⟩ : DmaSem sig)

theorem ownSemFacts : Pipeline.OwnSemFacts cfg0.spec osem := by decide

theorem ownSems0_chain (c : Dev nD) : (Pipeline.ownSems0 (Ix := Unit) (Name := ℕ) (U := UU) (Lvl := ℕ) (Val := Elt F) (τ := τ) osem c : sProp 𝕄)
    = iprop(semVal ((c : Thread nD τ), .dma (⟨1, by decide⟩ : DmaSem sig)) 0 ∗ semVal ((c : Thread nD τ), .dma (⟨2, by decide⟩ : DmaSem sig)) 0 ∗ semVal ((c : Thread nD τ), .dma (⟨3, by decide⟩ : DmaSem sig)) 0 ∗ semVal ((c : Thread nD τ), .dma (⟨4, by decide⟩ : DmaSem sig)) 0 ∗ semVal ((c : Thread nD τ), .dma (⟨5, by decide⟩ : DmaSem sig)) 0 ∗ semVal ((c : Thread nD τ), .dma (⟨6, by decide⟩ : DmaSem sig)) 0 ∗ semVal (cell c (.snd 0)) 0 ∗ semVal (cell c (.snd 1)) 0 ∗ semVal (cell c (.snd 2)) 0 ∗ semVal (cell c (.snd 3)) 0 ∗ semVal (cell c (.snd 4)) 0 ∗ semVal (cell c (.snd 5)) 0 ∗ semVal (cell c (.snd 6)) 0 ∗ semVal (cell c (.snd 7)) 0 ∗ semVal (cell c (.rcv 0)) 0 ∗ semVal (cell c (.rcv 1)) 0 ∗ semVal (cell c (.rcv 2)) 0 ∗ semVal (cell c (.rcv 3)) 0 ∗ semVal (cell c (.rcv 4)) 0 ∗ semVal (cell c (.rcv 5)) 0 ∗ semVal (cell c (.rcv 6)) 0 ∗ semVal (cell c (.rcv 7)) 0 ∗ semVal (cell c .ss) 0 ∗ semVal (cell c .sr) 0) := by
  rw [Pipeline.ownSems0_eq_of_list c osem [0, 1, 2, 3, 4, 5, 6, 7, 8, 9, 10, 11, 12, 13, 14, 15, 16, 17, 18, 19, 20, 21, 22, 23] (by decide) (by decide)]; rfl

theorem unscopedSems0_bar (c : Dev nD) : (unscopedSems0 c : sProp 𝕄) = semVal (cell c .bar) 0 := by
  unfold unscopedSems0; rw [bigSep_eq_bigSepL_of_eq [SemLoc.reg barS] (by decide) (by decide)]; rfl

/-- Own and unscoped semaphores are those of the local copies and those of the cells. -/
theorem sems_split (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ (fun κ : Kd => semVal (cell c κ) 0)) : sProp 𝕄) := by
  rw [ownSems0_chain, unscopedSems0_bar]
  iintro ⟨⟨H1, H2, H3, H4, H5, H6, H7, H8, H9, H10, H11, H12, H13, H14, H15, H16, H17, H18, H19, H20, H21, H22, H23, H24⟩, HB⟩
  isplitl [H1 H2 H3 H4 H5 H6]
  · iapply (localSems_intro (F := F) c) $$ H1 H2 H3 H4 H5 H6
  · iapply (kd_intro (F := F) (fun κ : Kd => semVal (cell c κ) 0)) $$ HB H23 H24 H7 H8 H9 H10 H11 H12 H13 H14 H15 H16 H17 H18 H19 H20 H21 H22

/-- And back. -/
theorem sems_join (c : Dev nD) :
    (iprop(localSems c ∗ bigSep Finset.univ (fun κ : Kd => semVal (cell c κ) 0)) : sProp 𝕄)
      ⊢ iprop(unscopedSems0 c ∗ Pipeline.ownSems0 (Ix := Unit) (Name := ℕ) (U := UU) (Lvl := ℕ) (Val := Elt F) (τ := τ) osem c) := by
  rw [ownSems0_chain, unscopedSems0_bar, kd_chain]
  unfold localSems
  iintro ⟨⟨H1, H2, H3, H4, H5, H6⟩, HB, H23, H24, H7, H8, H9, H10, H11, H12, H13, H14, H15, H16, H17, H18, H19, H20, H21, H22⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-! ## The launch element -/

abbrev gcell (p : Dev nD × Kd) : GSem nD τ sig := cell p.1 p.2

theorem gcell_injective : Function.Injective gcell := by
  rintro ⟨c, κ⟩ ⟨d, κ'⟩ h
  exact Prod.ext (congrArg (fun g : GSem nD τ sig => g.1.1) h) (semOf_injective (congrArg Prod.snd h))
theorem gtok_injective : Function.Injective (fun p : Dev nD × Kd => ((gcell p, 0, ()) : GSem nD τ sig × ℕ × Unit)) :=
  fun p q h => gcell_injective (congrArg Prod.fst h)

/-- All the cells of the exchange. -/
def exCells : Finset (GSem nD τ sig) := Finset.univ.map ⟨gcell, gcell_injective⟩
/-- The token of each cell's one duty. -/
def exToks : Finset (GSem nD τ sig × ℕ × Unit) := Finset.univ.map ⟨_, gtok_injective⟩

def u₀ : UU := (initOf (Pipeline.cells cfgs cellOf_inj) (Pipeline.launchToks cfgs cellOf_inj), (initOf exCells exToks, 1))

theorem ownU_parts (a : UR sig nD τ) (b : UB) : (ownU ((a, (b, 1)) : UU) : sProp 𝕄) ⊢ iprop(BI.own (EP a) ∗ BI.own (EX b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

variable (C : Sent F)

/-- What a device is dealt. -/
def G (c : Dev nD) : sProp 𝕄 :=
  iprop(bigSep Finset.univ (fun κ : Kd => roundState EX (rd C) (cell c κ) 0)
    ∗ bigSep Finset.univ (fun κ : Kd => atPos EX (cell c κ) 0 ∅ 0)
    ∗ bigSep Finset.univ (fun κ : Kd => reached EX (cell c κ) 0)
    ∗ bigSep Finset.univ (fun κ : Kd => dutyTok EX (cell c κ) 0 ()))

/-- What it has after the cells' invariants are made. -/
def G' (c : Dev nD) : sProp 𝕄 := iprop((∃ K, recsOf C K c ∗ toksOf c) ∗ localSems c)

theorem fund_exchange : BI.own (EX (initOf exCells exToks)) ⊢ (|==> bigSep Finset.univ (G C) : sProp 𝕄) := by
  have hX (Φ : GSem nD τ sig → sProp 𝕄) : bigSep exCells Φ = bigSep Finset.univ fun c : Dev nD => bigSep Finset.univ fun κ : Kd => Φ (cell c κ) := by
    unfold exCells; rw [bigSep_map, bigSep_univ_prod]; rfl
  have hT : bigSep exToks (fun x => (dutyTok EX x.1 x.2.1 x.2.2 : sProp 𝕄))
      = bigSep Finset.univ fun c : Dev nD => bigSep Finset.univ fun κ : Kd => dutyTok EX (cell c κ) 0 () := by
    unfold exToks; rw [bigSep_map, bigSep_univ_prod]; rfl
  iintro HX
  imod (Rounds.fund EX (rd C) exCells exToks) $$ HX with ⟨Hst, Hr, Hat, Htok⟩
  imodintro
  ihave Hst := (Entails.of_eq (hX fun g => roundState EX (rd C) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; rw [bigSep_sep', bigSep_sep', bigSep_sep']
  isplitl [Hst]; · iexact Hst
  isplitl [Hat]; · iexact Hat
  isplitl [Hr]; · iexact Hr
  iexact Htok

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop(bigSep Finset.univ (fun κ : Kd => iprop(∃ n : ℕ, cellInv EX (rd C) n (cell c κ)))
          ∗ bigSep Finset.univ (fun κ : Kd => atPos EX (cell c κ) 0 ∅ 0)
          ∗ bigSep Finset.univ (fun κ : Kd => reached EX (cell c κ) 0)
          ∗ bigSep Finset.univ (fun κ : Kd => dutyTok EX (cell c κ) 0 ())
          ∗ localSems c) := by
  unfold G
  iintro ⟨Hos, Hus, Hst, Hat, Hr, Htok⟩
  ihave Hv := (sems_split (F := F) c) $$ [Hos Hus]
  · isplitl [Hos] <;> iassumption
  icases Hv with ⟨Hl, Hv⟩
  imod (show iprop(bigSep Finset.univ (fun κ : Kd => semVal (cell c κ) 0) ∗ bigSep Finset.univ fun κ : Kd => roundState EX (rd C) (cell c κ) 0)
      ⊢ (|={Set.univ}=> bigSep Finset.univ fun κ : Kd => iprop(∃ n : ℕ, cellInv EX (rd C) n (cell c κ)) : sProp 𝕄) from by
        rw [← bigSep_sep']
        exact (bigSep_mono fun κ _ => (Rounds.body_intro EX (rd C) (cell c κ)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hl

/-! ## The records and the tokens dealt -/

/-- Every cell's record, on every device. -/
def allRecs (K : Dev nD × Kd → ℕ) : sProp 𝕄 :=
  iprop(bigSep Finset.univ (fun p : Dev nD × Kd => cellInv EX (rd C) (K p) (gcell p))
    ∗ bigSep Finset.univ (fun p : Dev nD × Kd => reached EX (gcell p) 0))

instance allRecs_persistent (K : Dev nD × Kd → ℕ) : BI.Persistent (allRecs C K) := by unfold allRecs; infer_instance

/-- Of a persistent family every subfamily. -/
theorem fam_sub {I J : Type} [Fintype I] [DecidableEq I] [Fintype J] [DecidableEq J] (Φ : I → sProp 𝕄) [∀ i, BI.Persistent (Φ i)] (f : J → I) :
    bigSep Finset.univ Φ ⊢ bigSep Finset.univ fun j => Φ (f j) :=
  (BI.bigSep_of_persistent Finset.univ _).trans (bigSep_mono fun j _ => bigSep_elim (Finset.mem_univ (f j)))

theorem recs_of_all (K : Dev nD × Kd → ℕ) (c : Dev nD) : allRecs C K ⊢ recsOf C K c := by
  unfold allRecs recsOf
  iintro ⟨#HI, #HR⟩
  isplitr
  · iapply (fam_sub (fun p : Dev nD × Kd => (cellInv EX (rd C) (K p) (gcell p) : sProp 𝕄)) (fun κ : Kd => (c, κ))); iexact HI
  isplitr
  · iapply (fam_sub (fun p : Dev nD × Kd => (cellInv EX (rd C) (K p) (gcell p) : sProp 𝕄)) (fun κ : Kd => (payer c κ, κ))); iexact HI
  · iapply (fam_sub (fun p : Dev nD × Kd => (reached EX (gcell p) 0 : sProp 𝕄)) (fun κ : Kd => (payer c κ, κ))); iexact HR

theorem payer_payer (c : Dev nD) (κ : Kd) : payer (payer c κ) κ = c := by
  cases κ <;> first | rfl | exact peer_peer c

/-- Each device's cell of each kind seen from the device that pays it. -/
def payPerm : Dev nD × Kd ≃ Dev nD × Kd :=
  ⟨fun p => (payer p.1 p.2, p.2), fun p => (payer p.1 p.2, p.2), fun p => Prod.ext (payer_payer p.1 p.2) rfl, fun p => Prod.ext (payer_payer p.1 p.2) rfl⟩

/-- The tokens go to the devices that pay. -/
theorem toks_dealt : (bigSep Finset.univ fun c : Dev nD => bigSep Finset.univ fun κ : Kd => (dutyTok EX (cell c κ) 0 () : sProp 𝕄))
    = bigSep Finset.univ fun c : Dev nD => bigSep Finset.univ fun κ : Kd => dutyTok EX (cell (payer c κ) κ) 0 () := by
  rw [← bigSep_univ_prod (fun p : Dev nD × Kd => (dutyTok EX (cell p.1 p.2) 0 () : sProp 𝕄)), bigSep_univ_equiv payPerm,
    ← bigSep_univ_prod (fun p : Dev nD × Kd => (dutyTok EX (cell (payer p.1 p.2) p.2) 0 () : sProp 𝕄))]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem start_of_records (K : Dev nD × Kd → ℕ) (c : Dev nD) : iprop(allRecs C K ∗ (toksOf c ∗ localSems c)) ⊢ G' C c := by
  unfold G'
  iintro ⟨#HA, Ht, Hl⟩
  isplitl [Ht]
  · iexists K
    isplitr; · iapply (recs_of_all C K c); iexact HA
    iexact Ht
  iexact Hl

theorem regroup :
    (bigSep Finset.univ fun c : Dev nD => iprop(bigSep Finset.univ (fun κ : Kd => iprop(∃ n : ℕ, cellInv EX (rd C) n (cell c κ)))
          ∗ bigSep Finset.univ (fun κ : Kd => atPos EX (cell c κ) 0 ∅ 0)
          ∗ bigSep Finset.univ (fun κ : Kd => reached EX (cell c κ) 0)
          ∗ bigSep Finset.univ (fun κ : Kd => dutyTok EX (cell c κ) 0 ())
          ∗ localSems c) : sProp 𝕄)
      ⊢ bigSep Finset.univ (G' C) := by
  rw [bigSep_sep', bigSep_sep', bigSep_sep', bigSep_sep', ← bigSep_univ_prod (fun p : Dev nD × Kd => iprop(∃ n : ℕ, cellInv EX (rd C) n (gcell p))),
    ← bigSep_univ_prod (fun p : Dev nD × Kd => (reached EX (gcell p) 0 : sProp 𝕄)), toks_dealt]
  iintro ⟨HI, Hat, #HR, Htok, Hl⟩
  ihave HK := (BI.bigSep_exists_pi Finset.univ (fun (p : Dev nD × Kd) (n : ℕ) => (cellInv EX (rd C) n (gcell p) : sProp 𝕄))) $$ HI
  icases HK with ⟨%K, #HI⟩
  iapply (with_persistent (R := allRecs C K) fun c _ => start_of_records C K c)
  isplitr
  · unfold allRecs; isplitl; · iexact HI
    iexact HR
  · unfold toksOf; rw [bigSep_sep', bigSep_sep']
    isplitr [Hl]
    · isplitl [Htok]; · iexact Htok
      iexact Hat
    iexact Hl

/-- The launch's one step for all devices. -/
theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## The credit -/

/-- The credit for the units of one kind that every partner owes. -/
theorem cred_kind (κ : Kd) (n : ℕ) (c : Dev nD) :
    (Pipeline.launchCred (fun d : Dev nD => (tallyAt (cell (peer d) κ) () n : CellTallies nD τ sig Unit)) c : sProp 𝕄) ⊢ cred (tallyAt (cell c κ) () n) :=
  Pipeline.launchCred_tallyAt (semOf κ) peer peer peer_peer peer_peer () n c

theorem creds (c : Dev nD) : (Pipeline.launchCred O₀ c : sProp 𝕄) ⊢ bigSep Finset.univ (credK c) := by
  show Pipeline.launchCred (fun d => due d .sr + due d (.rcv 1) + due d (.rcv 2) + due d (.rcv 3) + due d (.rcv 4) + due d (.rcv 5) + due d (.rcv 6)
    + due d (.rcv 7) + due d (.rcv 0) + tallyAt (cell (peer d) .bar) () 1) c ⊢ _
  rw [Pipeline.launchCred_add, Pipeline.launchCred_add, Pipeline.launchCred_add, Pipeline.launchCred_add, Pipeline.launchCred_add,
    Pipeline.launchCred_add, Pipeline.launchCred_add, Pipeline.launchCred_add, Pipeline.launchCred_add, cred_chain]
  iintro ⟨⟨⟨⟨⟨⟨⟨⟨⟨Hs, H1⟩, H2⟩, H3⟩, H4⟩, H5⟩, H6⟩, H7⟩, H0⟩, Hb⟩
  isplitl [Hb]; · iapply (cred_kind (F := F) .bar (amtOf .bar) c); iexact Hb
  isplitr; · iempintro
  isplitl [Hs]; · iapply (cred_kind (F := F) .sr (amtOf .sr) c); iexact Hs
  isplitr; · iempintro
  isplitr; · iempintro
  isplitr; · iempintro
  isplitr; · iempintro
  isplitr; · iempintro
  isplitr; · iempintro
  isplitr; · iempintro
  isplitr; · iempintro
  isplitl [H0]; · iapply (cred_kind (F := F) (.rcv 0) (amtOf (.rcv 0)) c); iexact H0
  isplitl [H1]; · iapply (cred_kind (F := F) (.rcv 1) (amtOf (.rcv 1)) c); iexact H1
  isplitl [H2]; · iapply (cred_kind (F := F) (.rcv 2) (amtOf (.rcv 2)) c); iexact H2
  isplitl [H3]; · iapply (cred_kind (F := F) (.rcv 3) (amtOf (.rcv 3)) c); iexact H3
  isplitl [H4]; · iapply (cred_kind (F := F) (.rcv 4) (amtOf (.rcv 4)) c); iexact H4
  isplitl [H5]; · iapply (cred_kind (F := F) (.rcv 5) (amtOf (.rcv 5)) c); iexact H5
  isplitl [H6]; · iapply (cred_kind (F := F) (.rcv 6) (amtOf (.rcv 6)) c); iexact H6
  iapply (cred_kind (F := F) (.rcv 7) (amtOf (.rcv 7)) c); iexact H7

end Cert.Exchange
-- ==== Proof.Launch.lean ====
/-
The launch: the run of @main on all devices, from any memory with zero counters. Every device's result is what its body
writes, its arguments are unchanged, every counter ends at zero.
-/
module

public import proofs.«01_k».proof.Proof.Left
public import proofs.«01_k».proof.Proof.Right
public import proofs.«01_k».proof.Proof.Ghost
public import Idealize.ShloMosaic.Lib.Ring.FamCut
public import Idealize.ShloMosaic.Lib.Quiescent
public import Idealize.ShloMosaic.Lib.Pipeline.CollectiveSegs
public import Idealize.ShloMosaic.Lib.ViewIndex

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The contents -/

variable (m : (ℓ : Loc nD τ sig) → Buf (Elt F) ℓ) (ρ : Dev nD → PrngReg)

/-- The memory at launch. -/
def s₀ : MemSt nD τ sig (Elt F) := ⟨m, fun _ => 0, ρ⟩

/-- The input as staged. -/
def xIn (c : Dev nD) : (cc0_stg0_0 : Ref sig .tc).ty.Contents (Elt F) :=
  (win0_0.blk (0 : Fin 1)).view.read (Elt F) (m ((c : Thread nD τ).loc main_arg0))
/-- The weights. -/
def wIn (c : Dev nD) : (main_arg1 : Ref sig .tc).ty.Contents (Elt F) := m ((c : Thread nD τ).loc main_arg1)

/-- What the devices send, from the memory at launch. -/
def sent : Sent F where
  lg d k := lgB (xL (xIn m d)) (wL (wIn m d) k)
  mx d := k0_pay37 (mAt (xL (xIn m d)) (wN (wIn m d)) 6) (lgF (xL (xIn m d)) (wN (wIn m d) 7))
  sx d := k0_pay38 (mAt (xL (xIn m d)) (wN (wIn m d)) 6) (sAt (xL (xIn m d)) (wN (wIn m d)) 6) (lgF (xL (xIn m d)) (wN (wIn m d) 7))

/-- The number subtracted from every logit of a row. -/
def lastB (c : Dev nD) : FVec F S512x1 .f32 :=
  bV (mAt (xL (xIn m c)) (wN (wIn m c)) 7) (sAt (xL (xIn m c)) (wN (wIn m c)) 7) ((sent m).mx (peer c)) ((sent m).sx (peer c))

/-- The result of a device: its own columns first on the first half of the axis, the partner's first on the other half. -/
def outF (c : Dev nD) : (main_v1 : Ref sig .tc).ty.Contents (Elt F) :=
  if k0_cond1 c = 1#1 then outOf (chunksL (lastB m c) ((sent m).lg c) ((sent m).lg (peer c)))
  else outOf (chunksL (lastB m c) ((sent m).lg (peer c)) ((sent m).lg c))

/-- Each device takes one of the two branches. -/
theorem branches (c : Dev nD) : (k0_cond1 c = 1#1 ∧ ¬ k0_cond2 c = 1#1) ∨ (¬ k0_cond1 c = 1#1 ∧ k0_cond2 c = 1#1) := by
  revert c; decide

/-- The body on any device. -/
theorem body_any (K : Dev nD × Kd → ℕ) (c : Dev nD) (vo : Buf (Elt F) (outM.view.loc (c : Thread nD τ))) (W : Waits sig Unit) (Q : PUnit → sProp 𝕄) :
    iprop(bodyIn (sent m) K c (xIn m c) (wIn m c) vo W ∗ (bodyOut c (xIn m c) (wIn m c) (outF m c) -∗ Q ⟨⟩))
      ⊢ wp frame (wpE defs₀ Variants.none (c : Thread nD τ) none) Set.univ (bodyAt0 (F := F) t0_0) Q := by
  rcases branches c with ⟨h1, h2⟩ | ⟨h1, h2⟩
  · have h := body_left (sent m) K c h1 h2 (xIn m c) (wIn m c) vo (fun _ => rfl) rfl rfl W Q
    unfold outF; rw [if_pos h1]; exact h
  · have h := body_right (sent m) K c h1 h2 (xIn m c) (wIn m c) vo (fun _ => rfl) rfl rfl W Q
    unfold outF; rw [if_neg h1]; exact h

/-! ## The chunked buffers whole -/

theorem chunk_disjoint {k k' : Fin 8} (h : k ≠ k') : Disjoint (chunk k).set (chunk k').set :=
  Rect.unit_disjoint (1 : Fin 2) (by
    have h' : k.val ≠ k'.val := fun e => h (Fin.ext e)
    show 1024 * k.val + 1024 ≤ 1024 * k'.val ∨ 1024 * k'.val + 1024 ≤ 1024 * k.val
    omega)

abbrev rxI (c : Dev nD) (k : Fin 8) : Finset (Idx ((c : Thread nD τ).loc cc0_scratch1)) := (rxS k).view.set
abbrev lgI (c : Dev nD) (k : Fin 8) : Finset (Idx ((c : Thread nD τ).loc cc0_scratch0)) := (lgS k).view.set
theorem rx_disj (c : Dev nD) : ∀ k k', k ≠ k' → Disjoint (rxI c k) (rxI c k') :=
  fun k k' h => View.disjoint_slice (v := (rxM : Memref sig .tc .vmem S512x8192 .bf16).view) (chunk_disjoint h)
theorem lg_disj (c : Dev nD) : ∀ k k', k ≠ k' → Disjoint (lgI c k) (lgI c k') :=
  fun k k' h => View.disjoint_slice (v := (lgM : Memref sig .tc .vmem S512x8192 .bf16).view) (chunk_disjoint h)

/-- What the chunks leave of the two buffers: nothing is said of it. -/
def rests (c : Dev nD) : sProp 𝕄 :=
  iprop((∃ f : Buf (Elt F) ((c : Thread nD τ).loc cc0_scratch1), ((c : Thread nD τ).loc cc0_scratch1) ↦[Ring.restOf (rxI c)]{fullShare} f)
    ∗ (∃ f : Buf (Elt F) ((c : Thread nD τ).loc cc0_scratch0), ((c : Thread nD τ).loc cc0_scratch0) ↦[Ring.restOf (lgI c)]{fullShare} f))

theorem scratch_split (c : Dev nD) : (Pipeline.scopedRest (Ix := Unit) (Name := ℕ) (U := UU) (Lvl := ℕ) (Val := Elt F) spec0 c : sProp 𝕄)
    ⊢ iprop(scratch c ∗ rests c) := by
  rw [scopedRest0_eq]
  unfold scratch rests
  iintro ⟨Hlg, Hrx, Hwb, Hls, Hrs, Hss, Hsr⟩
  ihave Hrx := (Ring.fam_split_ex (rxI c) (rx_disj c)) $$ Hrx
  ihave Hlg := (Ring.fam_split_ex (lgI c) (lg_disj c)) $$ Hlg
  icases Hrx with ⟨Hrx, Hrx'⟩
  icases Hlg with ⟨Hlg, Hlg'⟩
  isplitr [Hrx' Hlg']
  · isplitl [Hrx]; · iexact Hrx
    isplitl [Hlg]; · iexact Hlg
    isplitl [Hsr]; · iexact Hsr
    isplitl [Hwb]; · iexact Hwb
    isplitl [Hls]; · iexact Hls
    isplitl [Hrs]; · iexact Hrs
    iexact Hss
  · isplitl [Hrx']; · iexact Hrx'
    iexact Hlg'

theorem scratch_join (c : Dev nD) : iprop(scratch c ∗ rests c)
    ⊢ (Pipeline.scopedRest (Ix := Unit) (Name := ℕ) (U := UU) (Lvl := ℕ) (Val := Elt F) spec0 c : sProp 𝕄) := by
  rw [scopedRest0_eq]
  unfold scratch rests
  iintro ⟨⟨Hrx, Hlg, Hsr, Hwb, Hls, Hrs, Hss⟩, ⟨%fr, Hrx'⟩, ⟨%fl, Hlg'⟩⟩
  ihave Hrx := (Ring.fam_join (rxI c) (rx_disj c) (q := fullShare) fr) $$ [Hrx Hrx']
  · isplitl [Hrx]; · iexact Hrx
    iexists fr; iexact Hrx'
  ihave Hlg := (Ring.fam_join (lgI c) (lg_disj c) (q := fullShare) fl) $$ [Hlg Hlg']
  · isplitl [Hlg]; · iexact Hlg
    iexists fl; iexact Hlg'
  isplitl [Hlg]; · iexact Hlg
  isplitl [Hrx]; · iexact Hrx
  isplitl [Hwb]; · iexact Hwb
  isplitl [Hls]; · iexact Hls
  isplitl [Hrs]; · iexact Hrs
  isplitl [Hss]; · iexact Hss
  iexact Hsr

/-! ## The pipeline's proof data -/

/-- What a device holds outside the pipeline at launch. -/
def start (c : Dev nD) : sProp 𝕄 :=
  iprop((∃ K, recsOf (sent m) K c ∗ toksOf c) ∗ localSems c ∗ bigSep Finset.univ (credK c) ∗ levAts L lv
    ∗ (WM.view.loc (c : Thread nD τ) ↦{fullShare} wIn m c) ∗ (outM.view.loc (c : Thread nD τ) ↦{fullShare} m ((c : Thread nD τ).loc main_v1)))

def Φ₀ (c : Dev nD) : sProp 𝕄 := iprop(start m c ∗ scratch c ∗ rests c)
def Φ₁ (c : Dev nD) : sProp 𝕄 :=
  iprop(scratch c ∗ rests c ∗ localSems c ∗ bigSep Finset.univ (fun κ : Kd => semVal (cell c κ) 0)
    ∗ (WM.view.loc (c : Thread nD τ) ↦{fullShare} wIn m c) ∗ (outM.view.loc (c : Thread nD τ) ↦{fullShare} outF m c))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xIn m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 1) t0_0 d)))
def bodyPost (c : Dev nD) : sProp 𝕄 :=
  iprop(Φ₁ m c ∗ (dats m ρ 0 c).owesAt () (t0_0 : Fin cfg0.N).succ ∗ stg c cc0_stg0_0 (xIn m c))

theorem body_pre_post (c : Dev nD) :
    bodyPre m ρ c ⊢ wp frame (wpE (defs₀ (F := F)) Variants.none (c : Thread nD τ) none) Set.univ (bodyAt0 (F := F) t0_0) (fun _ => bodyPost m ρ c) := by
  unfold bodyPre Φ₀ start
  iintro ⟨⟨⟨⟨%K, Hrec, Htok⟩, Hloc, Hcr, Hlev, HW, Ho⟩, Hscr, Hrest⟩, Howe, ⟨%d0, %g0, %hg0, Hx⟩⟩
  have hx : g0 = xIn m c := by rw [hg0]; unfold Pipeline.Dat.before; rw [if_pos (fetch0_0 t0_0)]; rfl
  subst hx
  unfold Pipeline.Dat.owesAt Pipeline.owesWithin
  icases Howe with ⟨%W, %hW, HO⟩
  iapply (body_any m K c (m ((c : Thread nD τ).loc main_v1)) W fun _ => bodyPost m ρ c)
  isplitr [Hrest]
  · unfold bodyIn
    isplitl [Hlev]; · iexact Hlev
    isplitl [Hrec]; · iexact Hrec
    isplitl [Htok]; · iexact Htok
    isplitl [Hcr]; · iexact Hcr
    isplitl [HO]; · iexact HO
    isplitl [Hscr]; · iexact Hscr
    isplitl [Hloc]; · iexact Hloc
    isplitl [Hx]; · iexact Hx
    isplitl [HW]; · iexact HW
    iexact Ho
  · unfold bodyOut bodyPost Φ₁ Pipeline.Dat.owesAt Pipeline.owesWithin
    iintro ⟨Hscr, Hloc, Hz, ⟨%W', HO⟩, Hx, HW, Ho⟩
    isplitr [HO Hx]
    · isplitl [Hscr]; · iexact Hscr
      isplitl [Hrest]; · iexact Hrest
      isplitl [Hloc]; · iexact Hloc
      isplitl [Hz]; · iexact Hz
      isplitl [HW]; · iexact HW
      iexact Ho
    isplitl [HO]
    · iexists W'
      isplitr; · ipureintro; exact fun _ _ => Or.inl trivial
      iexact HO
    iexists _
    isplitr; · (ipureintro; rfl)
    iexact Hx

/-- The library's body obligation. -/
theorem body_obligation (c : Dev nD) : Pipeline.BodyObligation (dats (F := F) m ρ 0 c) (defs₀ (F := F)) Variants.none () Set.univ := fun t => by
  rw [fin_N0 t]
  rw [bigSep_W0, bigSep_W0]
  simp only [owns_whole_eq]
  exact body_pre_post m ρ c

theorem share_eq (c : Dev nD) (w : Fin cfg0.W) : (dats m ρ 0 c).share w = fullShare := by unfold Pipeline.Dat.share; split <;> rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sent m) c)
      ⊢ |={Set.univ}=> iprop(start m c ∗ emp) := by
  rw [Pipeline.unscopedRestP_none]
  iintro ⟨Hu, Hlev, Hcr, -, HG⟩
  ihave Hu := (Entails.of_eq (unscopedRest0_eq c (fun b => m ((c : Thread nD τ).loc b)))) $$ Hu
  icases Hu with ⟨HW, Ho⟩
  ihave Hc := (creds (F := F) c) $$ Hcr
  imodintro
  unfold start G'
  icases HG with ⟨HG, Hl⟩
  isplitl
  · isplitl [HG]; · iexact HG
    isplitl [Hl]; · iexact Hl
    isplitl [Hc]; · iexact Hc
    isplitl [Hlev]; · iexact Hlev
    isplitl [HW]; · iexact HW
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_split (F := F) c); iexact Hr

/-- The unscoped buffers at the end. -/
def finalV (c : Dev nD) : (b : Ref sig .tc) → Buf (Elt F) ((c : Thread nD τ).loc b) :=
  Function.update (fun b => m ((c : Thread nD τ).loc b)) main_v1 (outF m c)

theorem finalV_w (c : Dev nD) : finalV m c main_arg1 = m ((c : Thread nD τ).loc main_arg1) := Function.update_of_ne (by decide) _ _
theorem finalV_o (c : Dev nD) : finalV m c main_v1 = outF m c := Function.update_self _ _ _

/-- What a device passes on at the end. -/
def Yend (c : Dev nD) : sProp 𝕄 := iprop(unscopedSems0 c ∗ Pipeline.unscopedRest spec0 c (finalV m c))

theorem phi1_exit (c : Dev nD) :
    (dats m ρ 0 c).Φ (Fin.last cfg0.N) ⊢ iprop(Yend m c ∗ Pipeline.ownSems0 osem c ∗ Pipeline.scopedRest cfg0.spec c) := by
  rw [show (dats m ρ 0 c).Φ (Fin.last cfg0.N) = Φ₁ m c from rfl]
  unfold Φ₁ Yend
  rw [unscopedRest0_eq, finalV_w, finalV_o]
  iintro ⟨Hscr, Hrest, Hloc, Hz, HW, Ho⟩
  ihave Hs := (sems_join (F := F) c) $$ [Hloc Hz]
  · isplitl [Hloc] <;> iassumption
  icases Hs with ⟨Hu, Hos⟩
  isplitr [Hos Hscr Hrest]
  · isplitl [Hu]; · iexact Hu
    isplitl [HW]; · iexact HW
    iexact Ho
  isplitl [Hos]; · iexact Hos
  iapply (scratch_join (F := F) c)
  isplitl [Hscr] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_of_above (F := F) c _ 0 (by fin_cases w; fin_cases s; decide) _ (by
      rcases t with ⟨_ | _, ht⟩
      · exact above_O₀ c
      · exact Above.zero 0)

/-- What the end reads of a device. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_v1) = outF m c

theorem end_read (c : Dev nD) (s' : Phys nD τ sig (Elt F)) :
    iprop(Yend m c ∗ emp ∗ SI s') ⊢ |={Set.univ}=> (iprop(⌜QY m c s'.mem⌝ ∗ SI s') : sProp 𝕄) := by
  unfold Yend
  iintro ⟨⟨Hu, Hb⟩, -, HSI⟩
  unfold Pipeline.unscopedRest
  ihave H := (pointsTo_read_all _ (fun b : Ref sig .tc => (c : Thread nD τ).loc b) (finalV m c) s') $$ [Hb HSI]
  · isplitl [Hb] <;> iassumption
  icases H with ⟨%hb, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, (hb main_arg1 (by decide)).trans (finalV_w m c), (hb main_v1 (by decide)).trans (finalV_o m c)⟩
  · iexact HSI

/-! ## The run -/

/-- What every execution ends with. -/
def Final (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outF m c) ∧ r.2.sem = fun _ => 0

theorem run_main : θ_run defs (onTc (τ := τ) (main (F := F))) (s₀ m ρ) (Final m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (sent m)) (G' := G' (sent m)) (u₀ := u₀)
    (hu₀ := by
      unfold u₀
      iintro Hu
      ihave H := (ownU_parts (F := F) _ _) $$ Hu
      icases H with ⟨HP, HX⟩
      imod (fund_exchange (sent m)) $$ HX with HG
      imodintro
      isplitl [HP] <;> iassumption)
    (hglob := glob (sent m))
    (hA := fun _ _ => rfl) (hpf := fun _ k => k.elim0)
    (X := start m) (Y := Yend m) (Z := fun _ => iprop(emp))
    (hX := start_intro m ρ) (hin := phi0_intro m ρ) (hout := phi1_exit m ρ)
    (QY := QY m) (hY := end_read m)
    (hQ := fun s h hs => ⟨fun c => ⟨((h c).1 (0 : Fin 1)).trans ((dats (F := F) m ρ 0 c).arrAt_in (0 : Fin 1) rfl _), (h c).2.2.2.1, (h c).2.2.2.2⟩,
      sem_eq_zero hs fun c => (h c).2.2.1⟩)

end Cert.Exchange
-- ==== Proof.Frames.lean ====
/-
The frames of the three programs: from any memory with zero counters every execution ends, the arguments are unchanged
and every counter is zero again.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.Exchange

open Idealize.ShloMosaic
open Idealize.ShloMosaic.TcCoe
open Idealize.SL.Sem

section
open Cert.KernelIdeal Cert.KernelIdeal.Gen
variable {F : FTy → Type} [FloatOps F]

/-- The frame, for any float values. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun _ h => ⟨fun c => ⟨(h.1 c).1, (h.1 c).2.1⟩, h.2⟩) (run_main (F := F) m ρ)
end

theorem frame_ideal : Cert.quiescent_KernelIdeal := fun m g _ => frame_any (F := Ideal) m g

/-- The two kernels have the same bodies. -/
theorem bodies_eq : Cert.Kernel.defs₀ (F := Bits) = Cert.KernelIdeal.defs₀ (F := Bits) := by
  unfold Cert.Kernel.defs₀ Cert.KernelIdeal.defs₀
  congr 1
  funext l a
  match l with
  | ⟨0, _⟩ => rfl

theorem defs_eq : Cert.Kernel.defs (F := Bits) = Cert.KernelIdeal.defs (F := Bits) :=
  congrArg (Pipeline.defs Cert.Kernel.pcfgs) bodies_eq

theorem frame_kernel : Cert.quiescent_Kernel := fun m g _ => by
  have h := frame_any (F := Bits) m g
  rw [← defs_eq] at h
  exact h

theorem frame_reference : Cert.quiescent_ReferenceIdeal :=
  fun m g _ => (θ_run _ _ _).mono (fun _ h => ⟨fun c => (h c).2, sem_eq_zero_of_no_sems rfl _⟩)
    (Cert.ReferenceIdeal.Value.run (F := Ideal) m g)

end Cert.Exchange

end
-- ==== Proof.Softmax.lean ====
/-
The softmax of one row of finite logits over the extended reals, by running statistics. A pair (m, s) carries a total T when
m is some real number M and s is T scaled by exp(-M): the total is the sum of the exponentials of the logits seen. Which
number M is does not matter to the result, so nothing here says that it is the greatest logit.
-/
module

public import Idealize.ShloMosaic.PureOps.Ideal
public import Idealize.ShloMosaic.PureOps.Ideal.Laws

@[expose] public section

noncomputable section

namespace Cert.Softmax

open Idealize.ShloMosaic
open scoped BigOperators

/-- A finite sum of reals, as an extended real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The greatest of finitely many reals, at least one, is a real. -/
theorem fold_max_real {n : ℕ} (hn : 0 < n) (f : Fin n → ℝ) :
    ∃ M : ℝ, (Finset.univ : Finset (Fin n)).fold max (⊥ : EReal) (fun k => (f k : EReal)) = (M : EReal) := by
  have hlt : (Finset.univ : Finset (Fin n)).fold max (⊥ : EReal) (fun k => (f k : EReal)) < ⊤ :=
    (Finset.fold_max_lt _).mpr ⟨bot_lt_top, fun k _ => EReal.coe_lt_top _⟩
  have hgt : ⊥ < (Finset.univ : Finset (Fin n)).fold max (⊥ : EReal) (fun k => (f k : EReal)) :=
    (Finset.lt_fold_max _).mpr (Or.inr ⟨⟨0, hn⟩, Finset.mem_univ _, EReal.bot_lt_coe _⟩)
  exact ⟨_, (EReal.coe_toReal hlt.ne hgt.ne').symm⟩

/-- The pair of statistics carries the total. -/
def Stat (m s : EReal) (T : ℝ) : Prop := ∃ M : ℝ, m = (M : EReal) ∧ s = ((T * Real.exp (-M) : ℝ) : EReal)

theorem exp_sub_coe (l M : ℝ) : Ideal.exp ((l : EReal) - (M : EReal)) = ((Real.exp l * Real.exp (-M) : ℝ) : EReal) := by
  rw [← EReal.coe_sub, Ideal.exp_coe, sub_eq_add_neg, Real.exp_add]

theorem sum_exp_sub {ι : Type*} [Fintype ι] (f : ι → ℝ) (M : ℝ) :
    ∑ k, Ideal.exp ((f k : EReal) - (M : EReal)) = (((∑ k, Real.exp (f k)) * Real.exp (-M) : ℝ) : EReal) := by
  simp only [exp_sub_coe]
  rw [coe_sum, Finset.sum_mul]

/-- A total scaled to one number and rescaled to another. -/
theorem rescale (T M M' : ℝ) :
    ((T * Real.exp (-M) : ℝ) : EReal) * Ideal.exp ((M : EReal) - (M' : EReal)) = ((T * Real.exp (-M') : ℝ) : EReal) := by
  rw [exp_sub_coe, ← EReal.coe_mul]
  congr 1
  have h : Real.exp (-M) * Real.exp M = 1 := by rw [← Real.exp_add, neg_add_cancel, Real.exp_zero]
  calc T * Real.exp (-M) * (Real.exp M * Real.exp (-M')) = T * (Real.exp (-M) * Real.exp M) * Real.exp (-M') := by ring
    _ = T * Real.exp (-M') := by rw [h, mul_one]

/-- The statistics of the first logits. -/
theorem Stat.first {ι : Type*} [Fintype ι] (f : ι → ℝ) {m : EReal} {M : ℝ} (hm : m = (M : EReal)) :
    Stat m (∑ k, Ideal.exp ((f k : EReal) - m)) (∑ k, Real.exp (f k)) := by
  subst hm
  exact ⟨M, rfl, sum_exp_sub f M⟩

/-- More logits. -/
theorem Stat.step {ι : Type*} [Fintype ι] (f : ι → ℝ) {m s m₁ : EReal} {T M₁ : ℝ} (h : Stat m s T) (h₁ : m₁ = (M₁ : EReal)) :
    Stat (max m m₁) (s * Ideal.exp (m - max m m₁) + ∑ k, Ideal.exp ((f k : EReal) - max m m₁)) (T + ∑ k, Real.exp (f k)) := by
  obtain ⟨M, rfl, rfl⟩ := h
  subst h₁
  rw [← EReal.coe_strictMono.monotone.map_max]
  refine ⟨max M M₁, rfl, ?_⟩
  rw [rescale, sum_exp_sub, ← EReal.coe_add, add_mul]

/-- What is subtracted from every logit, from two pairs of statistics: the logarithm of the sum of the totals. -/
theorem norm_eq {m s m' s' : EReal} {T T' : ℝ} (h : Stat m s T) (h' : Stat m' s' T') (hT : 0 < T + T') :
    max m m' + Ideal.log (s * Ideal.exp (m - max m m') + s' * Ideal.exp (m' - max m m')) = ((Real.log (T + T') : ℝ) : EReal) := by
  obtain ⟨M, rfl, rfl⟩ := h
  obtain ⟨M', rfl, rfl⟩ := h'
  rw [← EReal.coe_strictMono.monotone.map_max, rescale, rescale, ← EReal.coe_add, ← add_mul]
  have hp : 0 < (T + T') * Real.exp (-max M M') := mul_pos hT (Real.exp_pos _)
  rw [Ideal.log_coe, if_neg (not_le.mpr hp), ← EReal.coe_add, Real.log_mul hT.ne' (Real.exp_pos _).ne', Real.log_exp]
  congr 1
  ring

/-- A logit less that logarithm, exponentiated: the share. -/
theorem exp_sub_log (l : ℝ) {T : ℝ} (hT : 0 < T) :
    Ideal.exp ((l : EReal) - ((Real.log T : ℝ) : EReal)) = ((Real.exp l / T : ℝ) : EReal) := by
  rw [exp_sub_coe, Real.exp_neg, Real.exp_log hT, div_eq_mul_inv]

/-- The plain softmax: the share again. -/
theorem plain_eq {ι : Type*} [Fintype ι] [Nonempty ι] (f : ι → ℝ) (M : ℝ) (j : ι) :
    Ideal.div (Ideal.exp ((f j : EReal) - (M : EReal))) (∑ k, Ideal.exp ((f k : EReal) - (M : EReal)))
      = ((Real.exp (f j) / ∑ k, Real.exp (f k) : ℝ) : EReal) := by
  have hT : 0 < ∑ k, Real.exp (f k) := Finset.sum_pos (fun k _ => Real.exp_pos _) Finset.univ_nonempty
  have hE : 0 < Real.exp (-M) := Real.exp_pos _
  rw [sum_exp_sub, exp_sub_coe, Ideal.div_coe (mul_pos hT hE).ne', ← EReal.coe_mul]
  congr 1
  field_simp

end Cert.Softmax

end
-- ==== Proof.Rows.lean ====
/-
The kernel's values at the extended reals, read at one row: the logits of a chunk, the running statistics, what is
subtracted from every logit, and a chunk of the output.
-/
module

public import proofs.«01_k».proof.Proof.Out
public import proofs.«01_k».proof.Proof.Softmax
public import Idealize.ShloMosaic.Lib.MatmulPlain
public import Idealize.ShloMosaic.Lib.ValueLayout
public import Idealize.ShloMosaic.Lib.IdealHost

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Cert.Softmax
open scoped BigOperators

/-! ## The operations at an index -/

theorem col_apply (v : FVec Ideal S512 .f32) (i : Fin 512) :
    shapeCast S512x1 v shapeCasts_S512_S512x1 (ix2 i (0 : Fin 1)) = v (ix1 i) :=
  shapeCast_apply v _ _ _ (by
    rw [Shape.rowMajor_val_one, Shape.rowMajor_val_two]
    show i.val = i.val * 1 + 0
    omega)

theorem spread_apply (v : FVec Ideal S512x1 .f32) (i : Fin 512) (j : Fin 1024) :
    broadcastTo S512x1024 v broadcasts_S512x1_S512x1024 (ix2 i j) = v (ix2 i (0 : Fin 1)) :=
  broadcastTo_apply v _ _ _ fun a => by
    match a with
    | ⟨0, _⟩ => rfl
    | ⟨1, _⟩ => rfl

/-- The row maximum of a chunk, as a column. -/
abbrev rowMax (v : FVec Ideal S512x1024 .f32) : FVec Ideal S512x1 .f32 :=
  shapeCast S512x1 (multiReduction .maximumf [1] S512 v 0xFF800000#32 reduces_S512x1024_S512 (.inl rfl) rfl) shapeCasts_S512_S512x1
/-- The row sum of a chunk, as a column. -/
abbrev rowSum (v : FVec Ideal S512x1024 .f32) : FVec Ideal S512x1 .f32 :=
  shapeCast S512x1 (multiReduction .add [1] S512 v 0x00000000#32 reduces_S512x1024_S512 (.inl rfl) rfl) shapeCasts_S512_S512x1

theorem lift_eq (i : Fin 512) (k : Fin 1024) :
    (reduces_S512x1024_S512 : S512x1024.Reduces [1] S512).lift (ix1 i) k = ix2 i k := by
  funext a
  match a with
  | ⟨0, _⟩ => rfl
  | ⟨1, _⟩ => rfl

theorem rowMax_apply (v : FVec Ideal S512x1024 .f32) (i : Fin 512) (f : Fin 1024 → ℝ) (hf : ∀ j, v (ix2 i j) = (f j : EReal)) :
    ∃ M : ℝ, rowMax v (ix2 i (0 : Fin 1)) = (M : EReal) := by
  obtain ⟨M, hM⟩ := fold_max_real (by decide) f
  refine ⟨M, ?_⟩
  rw [← hM]
  refine (col_apply _ i).trans ((Ideal.multiReduction_maximumf_single v _ _ _ rfl (ix1 i)).trans ?_)
  have hb : (FloatOps.ofBits (F := Ideal) .f32 0xFF800000#32 : EReal) = ⊥ := by
    show Ideal.ofBits .f32 0xFF800000#32 = ⊥
    simp [Ideal.ofBits, Ideal.ieee]
  have hv : (v ∘ (reduces_S512x1024_S512 : S512x1024.Reduces [1] S512).lift (ix1 i)) = fun k : Fin 1024 => (f k : EReal) :=
    funext fun k => (congrArg v (lift_eq i k)).trans (hf k)
  exact congrArg₂ (fun a g => Finset.fold max a g (Finset.univ : Finset (Fin 1024))) hb hv

theorem rowSum_apply (v : FVec Ideal S512x1024 .f32) (i : Fin 512) :
    rowSum v (ix2 i (0 : Fin 1)) = ∑ k : Fin 1024, v (ix2 i k) := by
  refine (col_apply _ i).trans ((Ideal.multiReduction_add_single v _ _ _ rfl (ix1 i)).trans ?_)
  exact Finset.sum_congr rfl fun k _ => congrArg v (lift_eq i k)

/-! ## The statistics of one row -/

theorem first_stat (x : Vec Ideal S512x1024 .f32) (w : Vec Ideal S1x1024x1024 .f32) (i : Fin 512) (f : Fin 1024 → ℝ)
    (hf : ∀ j, lgF x w (ix2 i j) = (f j : EReal)) :
    Stat (k0_pay4 x w (ix2 i (0 : Fin 1))) (k0_pay6 (k0_pay5 x w) (ix2 i (0 : Fin 1))) (∑ k, Real.exp (f k)) := by
  obtain ⟨M, hM⟩ := rowMax_apply (lgF x w) i f hf
  have hs : k0_pay6 (k0_pay5 x w) (ix2 i (0 : Fin 1))
      = ∑ k, Ideal.exp ((f k : EReal) - rowMax (lgF x w) (ix2 i (0 : Fin 1))) := by
    refine (rowSum_apply (k0_pay5 x w) i).trans (Finset.sum_congr rfl fun k _ => ?_)
    show Ideal.exp (lgF x w (ix2 i k) - broadcastTo S512x1024 (rowMax (lgF x w)) broadcasts_S512x1_S512x1024 (ix2 i k)) = _
    rw [hf, spread_apply]
  rw [hs]
  exact Stat.first f hM

theorem step_stat (m s : FVec Ideal S512x1 .f32) (v : FVec Ideal S512x1024 .f32) (i : Fin 512) (f : Fin 1024 → ℝ) (T : ℝ)
    (hf : ∀ j, v (ix2 i j) = (f j : EReal)) (h : Stat (m (ix2 i (0 : Fin 1))) (s (ix2 i (0 : Fin 1))) T) :
    Stat (k0_pay10 m v (ix2 i (0 : Fin 1))) (k0_pay11 m s v (ix2 i (0 : Fin 1))) (T + ∑ k, Real.exp (f k)) := by
  obtain ⟨M, hM⟩ := rowMax_apply v i f hf
  have hm : k0_pay10 m v (ix2 i (0 : Fin 1)) = max (m (ix2 i (0 : Fin 1))) (rowMax v (ix2 i (0 : Fin 1))) := rfl
  have hs : k0_pay11 m s v (ix2 i (0 : Fin 1))
      = s (ix2 i (0 : Fin 1)) * Ideal.exp (m (ix2 i (0 : Fin 1)) - max (m (ix2 i (0 : Fin 1))) (rowMax v (ix2 i (0 : Fin 1))))
        + ∑ k, Ideal.exp ((f k : EReal) - max (m (ix2 i (0 : Fin 1))) (rowMax v (ix2 i (0 : Fin 1)))) := by
    show s (ix2 i (0 : Fin 1)) * Ideal.exp (m (ix2 i (0 : Fin 1)) - max (m (ix2 i (0 : Fin 1))) (rowMax v (ix2 i (0 : Fin 1))))
        + rowSum (exp (subf v (broadcastTo S512x1024 (k0_pay10 m v) broadcasts_S512x1_S512x1024))) (ix2 i (0 : Fin 1)) = _
    rw [rowSum_apply]
    refine congrArg _ (Finset.sum_congr rfl fun k _ => ?_)
    show Ideal.exp (v (ix2 i k) - broadcastTo S512x1024 (k0_pay10 m v) broadcasts_S512x1_S512x1024 (ix2 i k)) = _
    rw [hf, spread_apply, hm]
  rw [hm, hs]
  exact Stat.step f h hM

/-- The running statistics after chunk `n` carry the exponentials of the chunks so far. -/
theorem at_stat (x : Vec Ideal S512x1024 .f32) (w : ℕ → Vec Ideal S1x1024x1024 .f32) (i : Fin 512) (f : ℕ → Fin 1024 → ℝ)
    (hf : ∀ n j, lgF x (w n) (ix2 i j) = (f n j : EReal)) (n : ℕ) :
    Stat (mAt x w n (ix2 i (0 : Fin 1))) (sAt x w n (ix2 i (0 : Fin 1))) (∑ q ∈ Finset.range (n + 1), ∑ k, Real.exp (f q k)) := by
  induction n with
  | zero =>
    rw [zero_add, Finset.sum_range_one]
    exact first_stat x (w 0) i (f 0) (hf 0)
  | succ n ih =>
    rw [Finset.sum_range_succ]
    exact step_stat (mAt x w n) (sAt x w n) (lgF x (w (n + 1))) i (f (n + 1)) _ (hf (n + 1)) ih

/-- What a row subtracts from every logit, from the statistics of both devices. -/
theorem bV_apply (m s m' s' : FVec Ideal S512x1 .f32) (i : Fin 512) (T T' : ℝ)
    (h : Stat (m (ix2 i (0 : Fin 1))) (s (ix2 i (0 : Fin 1))) T) (h' : Stat (m' (ix2 i (0 : Fin 1))) (s' (ix2 i (0 : Fin 1))) T') (hT : 0 < T + T') :
    bV (F := Ideal) m s m' s' (ix2 i (0 : Fin 1)) = ((Real.log (T + T') : ℝ) : EReal) := norm_eq h h' hT

/-- A chunk of the output at an index. -/
theorem oc_apply (b : FVec Ideal S512x1 .f32) (lg : Vec Ideal S512x1024 .bf16) (i : Fin 512) (j : Fin 1024) (l T : ℝ) (hT : 0 < T)
    (hl : lg (ix2 i j) = (l : EReal)) (hb : b (ix2 i (0 : Fin 1)) = ((Real.log T : ℝ) : EReal)) :
    oc b lg (ix2 i j) = ((Real.exp l / T : ℝ) : EReal) := by
  rw [← exp_sub_log l hT]
  have h : oc b lg (ix2 i j) = Ideal.exp (lg (ix2 i j) - broadcastTo S512x1024 b broadcasts_S512x1_S512x1024 (ix2 i j)) := by
    unfold oc oR
    exact congrFun (shapeCast_shapeCast (fun y : S512x1024.Idx => Ideal.exp (lg y - broadcastTo S512x1024 b broadcasts_S512x1_S512x1024 y))
      shapeCasts_S512x1024_S1x512x1024 squeezes_S1x512x1024_S512x1024.numel_eq) (ix2 i j)
  rw [h, spread_apply, hl, hb]

end Cert.Exchange

end
-- ==== Proof.Logits.lean ====
/-
The logits of a chunk at an index: sums of products of the launch's arrays.
-/
module

public import proofs.«01_k».proof.Proof.Launch
public import proofs.«01_k».proof.Proof.Rows

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Cert.Softmax
open scoped BigOperators

variable (m : (ℓ : Loc nD τ sig) → Buf (Elt Ideal) ℓ)

/-! ## The arrays as loaded -/

theorem xL_xIn (c : Dev nD) (y : S512x1024.Idx) : xL (xIn m c) y = m (c.tc.loc main_arg0) y := by
  unfold xL xIn
  exact congrArg (m (c.tc.loc main_arg0)) (funext fun a => Fin.ext (by
    match a with
    | ⟨0, _⟩ => show 0 + 1 * (0 + 1 * (y (0 : Fin 2)).val) = (y (0 : Fin 2)).val; omega
    | ⟨1, _⟩ => show 0 + 1 * (0 + 1 * (y (1 : Fin 2)).val) = (y (1 : Fin 2)).val; omega))

theorem wR_apply (s : Fin 2) (X : S1024x1024.Idx → Elt Ideal .f32) (d j : Fin 1024) :
    wR s X (ix3 (0 : Fin 1) d j) = X (ix2 d j) := by
  have h := congrFun (View.read_rep (Val := Elt Ideal) (wbS s).view X) (ix2 d j)
  rw [← h]
  show wbM.view.readAt (Elt Ideal) (wslot s).toLoadRect ((wbS s).view.rep X) (ix3 (0 : Fin 1) d j)
    = wbM.view.readAt (Elt Ideal) (wslot s).toLoadRect ((wbS s).view.rep X) (Shape.reshapeEquiv squeezes_S1x1024x1024_S1024x1024.numel_eq (ix2 d j))
  rw [reshapeEquiv_ix2_1ab]
  rfl

theorem wcol_lt (k : Fin 8) (j : Fin 1024) : 1024 * k.val + j.val < 8192 := by omega

theorem wL_apply (w : WM.view.ty.Contents (Elt Ideal)) (k : Fin 8) (d j : Fin 1024) :
    wL w k (ix3 (0 : Fin 1) d j) = w (ix2 d (⟨1024 * k.val + j.val, wcol_lt k j⟩ : Fin 8192)) := by
  unfold wL
  rw [wR_apply]
  exact congrArg w (funext fun a => Fin.ext (by
    match a with
    | ⟨0, _⟩ => show 0 + 1 * d.val = d.val; omega
    | ⟨1, _⟩ => show 1024 * k.val + 1 * j.val = 1024 * k.val + j.val; omega))

/-! ## The products -/

theorem lgF_apply (x : Vec Ideal S512x1024 .f32) (w : Vec Ideal S1x1024x1024 .f32) (i : Fin 512) (j : Fin 1024) :
    lgF x w (ix2 i j) = ∑ d : Fin 1024, x (ix2 i d) * w (ix3 (0 : Fin 1) d j) := by
  have h := Ideal.matmul_plain_apply (M := 512) (K := 1024) (N := 1024) (φ₁ := .f32) (φ₂ := .f32) none (k0_pay1 x)
    (shapeCast S1024x1024 w shapeCasts_S1x1024x1024_S1024x1024) (constant S512x1024 .f32 0x00000000#32) i j
  have h0 : (constant (F := Ideal) S512x1024 .f32 0x00000000#32) (ix2 i j) = (0 : EReal) := by
    show Ideal.ofBits .f32 0x00000000#32 = 0
    simp [Ideal.ofBits, Ideal.ieee]
  refine (h : lgF x w (ix2 i j) = _).trans ?_
  rw [h0, zero_add]
  refine Finset.sum_congr rfl fun d _ => ?_
  rw [shapeCast_1ab_ab_apply]
  exact congrArg (· * _) (congrFun (shapeCast_self x _) (ix2 i d))

theorem lgB_apply (x : Vec Ideal S512x1024 .f32) (w : Vec Ideal S1x1024x1024 .f32) (y : S512x1024.Idx) : lgB x w y = lgF x w y :=
  congrFun (shapeCast_self (s := S512x1024) (lgF x w) shapeCasts_S512x1024_S512x1024) y

/-! ## Real entries -/

/-- The logit of row `i` and column `q` of the whole weights. -/
def logit (X : Fin 512 → Fin 1024 → ℝ) (W : Fin 1024 → Fin 16384 → ℝ) (i : Fin 512) (q : Fin 16384) : ℝ := ∑ d, X i d * W d q

/-- The place of a device along the exchanged axis. -/
def side (c : Dev nD) : Fin 2 := ⟨c.val / 2 % 2, Nat.mod_lt _ (by decide)⟩

/-- Column `j` of chunk `p` of sixteen. -/
def at16 (p : Fin 16) (j : Fin 1024) : Fin 16384 := ⟨1024 * p.val + j.val, by omega⟩
/-- The place among sixteen of chunk `k` of one side. -/
def of8 (s : Fin 2) (k : Fin 8) : Fin 16 := ⟨8 * s.val + k.val, by omega⟩

/-- The launch's arrays hold the reals `X` and, on each device, its side's half of the columns of `W`. -/
structure Holds (X : Fin 512 → Fin 1024 → ℝ) (W : Fin 1024 → Fin 16384 → ℝ) : Prop where
  x : ∀ (c : Dev nD) i d, m (c.tc.loc main_arg0) (ix2 i d) = (X i d : EReal)
  w : ∀ (c : Dev nD) d (k : Fin 8) j, m (c.tc.loc main_arg1) (ix2 d (⟨1024 * k.val + j.val, wcol_lt k j⟩ : Fin 8192)) = (W d (at16 (of8 (side c) k) j) : EReal)

variable {m} {X : Fin 512 → Fin 1024 → ℝ} {W : Fin 1024 → Fin 16384 → ℝ}

theorem Holds.lgF (h : Holds m X W) (c : Dev nD) (k : Fin 8) (i : Fin 512) (j : Fin 1024) :
    lgF (xL (xIn m c)) (wL (wIn m c) k) (ix2 i j) = (logit X W i (at16 (of8 (side c) k) j) : EReal) := by
  rw [lgF_apply, logit, ← coe_sum]
  refine Finset.sum_congr rfl fun d _ => ?_
  rw [xL_xIn, h.x, wL_apply, EReal.coe_mul]
  exact congrArg _ (h.w c d k j)

end Cert.Exchange

end
-- ==== Proof.Result.lean ====
/-
What every device ends up holding, as real numbers: the exponential of a logit over the sum of its row's exponentials.
-/
module

public import proofs.«01_k».proof.Proof.Logits

@[expose] public section

set_option maxRecDepth 16384

noncomputable section

namespace Cert.Exchange

open Cert.KernelIdeal Cert.KernelIdeal.Gen
open Idealize.ShloMosaic
open Idealize.ShloMosaic.TcCoe
open Idealize.ShloMosaic.ValueIdx
open Cert.Softmax
open scoped BigOperators

variable {m : (ℓ : Loc nD τ sig) → Buf (Elt Ideal) ℓ} {X : Fin 512 → Fin 1024 → ℝ} {W : Fin 1024 → Fin 16384 → ℝ}

/-! ## Sums over the columns -/

/-- A sum over `a * b` places, block by block. -/
theorem sum_blocks {a b : ℕ} (g : Fin (a * b) → ℝ) : ∑ q, g q = ∑ p : Fin a, ∑ j : Fin b, g (finProdFinEquiv (p, j)) := by
  rw [← Fintype.sum_prod_type' (fun p j => g (finProdFinEquiv (p, j)))]
  exact (Equiv.sum_comp finProdFinEquiv g).symm

theorem sum_at16 (g : Fin 16384 → ℝ) : ∑ q, g q = ∑ p : Fin 16, ∑ j, g (at16 p j) := by
  refine (sum_blocks (a := 16) (b := 1024) g).trans (Finset.sum_congr rfl fun p _ => Finset.sum_congr rfl fun j _ => congrArg g (Fin.ext ?_))
  show j.val + 1024 * p.val = 1024 * p.val + j.val
  omega

theorem sum_of8 (g : Fin 16 → ℝ) : ∑ p, g p = (∑ k : Fin 8, g (of8 0 k)) + ∑ k : Fin 8, g (of8 1 k) := by
  refine (Fin.sum_univ_add (a := 8) (b := 8) g).trans (congrArg₂ _ ?_ ?_)
  · exact Finset.sum_congr rfl fun k _ => congrArg g (Fin.ext (by show k.val = 8 * 0 + k.val; omega))
  · exact Finset.sum_congr rfl fun k _ => congrArg g (Fin.ext (by show 8 + k.val = 8 * 1 + k.val; omega))

/-- The exponentials of a row over the columns of one side. -/
def half (X : Fin 512 → Fin 1024 → ℝ) (W : Fin 1024 → Fin 16384 → ℝ) (i : Fin 512) (s : Fin 2) : ℝ :=
  ∑ k : Fin 8, ∑ j, Real.exp (logit X W i (at16 (of8 s k) j))
/-- The exponentials of a row over all columns. -/
def total (X : Fin 512 → Fin 1024 → ℝ) (W : Fin 1024 → Fin 16384 → ℝ) (i : Fin 512) : ℝ := ∑ q, Real.exp (logit X W i q)

theorem total_eq (i : Fin 512) : total X W i = half X W i 0 + half X W i 1 :=
  (sum_at16 fun q => Real.exp (logit X W i q)).trans (sum_of8 fun p => ∑ j, Real.exp (logit X W i (at16 p j)))

theorem total_pos (i : Fin 512) : 0 < total X W i :=
  Finset.sum_pos (fun q _ => Real.exp_pos _) ⟨⟨0, by decide⟩, Finset.mem_univ _⟩

/-! ## The sides -/

theorem side_peer (c : Dev nD) : (side c = 0 ∧ side (peer c) = 1) ∨ (side c = 1 ∧ side (peer c) = 0) := by revert c; decide
theorem side_cond (c : Dev nD) : k0_cond1 c = 1#1 ↔ side c = 0 := by revert c; decide

theorem half_add (c : Dev nD) (i : Fin 512) : half X W i (side c) + half X W i (side (peer c)) = total X W i := by
  rw [total_eq]
  rcases side_peer c with ⟨h, h'⟩ | ⟨h, h'⟩
  · rw [h, h']
  · rw [h, h', add_comm]

/-! ## A device's statistics -/

/-- The logits of a device's chunk `n`, the first chunk's where there is no such chunk. -/
def chunkLg (X : Fin 512 → Fin 1024 → ℝ) (W : Fin 1024 → Fin 16384 → ℝ) (c : Dev nD) (i : Fin 512) (n : ℕ) (j : Fin 1024) : ℝ :=
  logit X W i (at16 (of8 (side c) (if h : n < 8 then ⟨n, h⟩ else 0)) j)

theorem Holds.chunk (h : Holds m X W) (c : Dev nD) (i : Fin 512) (n : ℕ) (j : Fin 1024) :
    Exchange.lgF (xL (xIn m c)) (wN (wIn m c) n) (ix2 i j) = (chunkLg X W c i n j : EReal) := by
  unfold wN chunkLg
  split
  · exact h.lgF c _ i j
  · exact h.lgF c _ i j

theorem Holds.stat (h : Holds m X W) (c : Dev nD) (i : Fin 512) :
    Stat (mAt (xL (xIn m c)) (wN (wIn m c)) 7 (ix2 i (0 : Fin 1))) (sAt (xL (xIn m c)) (wN (wIn m c)) 7 (ix2 i (0 : Fin 1))) (half X W i (side c)) := by
  have hs := at_stat (xL (xIn m c)) (wN (wIn m c)) i (chunkLg X W c i) (fun n j => h.chunk c i n j) 7
  rw [Finset.sum_range] at hs
  have e : (∑ q : Fin (7 + 1), ∑ k, Real.exp (chunkLg X W c i q.val k)) = half X W i (side c) := by
    refine Finset.sum_congr rfl fun k _ => Finset.sum_congr rfl fun j _ => ?_
    unfold chunkLg
    rw [dif_pos k.isLt]
  rw [e] at hs
  exact hs

theorem sent_mx (m : (ℓ : Loc nD τ sig) → Buf (Elt Ideal) ℓ) (d : Dev nD) (y : S512x1.Idx) : (sent m).mx d y = mAt (xL (xIn m d)) (wN (wIn m d)) 7 y :=
  congrFun (shapeCast_self (s := S512x1) (mAt (xL (xIn m d)) (wN (wIn m d)) 7) shapeCasts_S512x1_S512x1) y
theorem sent_sx (m : (ℓ : Loc nD τ sig) → Buf (Elt Ideal) ℓ) (d : Dev nD) (y : S512x1.Idx) : (sent m).sx d y = sAt (xL (xIn m d)) (wN (wIn m d)) 7 y :=
  congrFun (shapeCast_self (s := S512x1) (sAt (xL (xIn m d)) (wN (wIn m d)) 7) shapeCasts_S512x1_S512x1) y

theorem Holds.lastB (h : Holds m X W) (c : Dev nD) (i : Fin 512) :
    Exchange.lastB m c (ix2 i (0 : Fin 1)) = ((Real.log (total X W i) : ℝ) : EReal) := by
  have hp : Stat ((sent m).mx (peer c) (ix2 i (0 : Fin 1))) ((sent m).sx (peer c) (ix2 i (0 : Fin 1))) (half X W i (side (peer c))) := by
    rw [sent_mx, sent_sx]
    exact h.stat (peer c) i
  rw [← half_add c i]
  exact bV_apply _ _ _ _ i _ _ (h.stat c i) hp (by rw [half_add]; exact total_pos i)

/-! ## The result -/

/-- Entry `(i, q)` of the softmax of the logits. -/
def soft (X : Fin 512 → Fin 1024 → ℝ) (W : Fin 1024 → Fin 16384 → ℝ) (i : Fin 512) (q : Fin 16384) : ℝ :=
  Real.exp (logit X W i q) / total X W i

theorem Holds.oc (h : Holds m X W) (b : FVec Ideal S512x1 .f32) (i : Fin 512) (hb : b (ix2 i (0 : Fin 1)) = ((Real.log (total X W i) : ℝ) : EReal))
    (d : Dev nD) (k : Fin 8) (j : Fin 1024) : oc b ((sent m).lg d k) (ix2 i j) = (soft X W i (at16 (of8 (side d) k) j) : EReal) :=
  oc_apply b ((sent m).lg d k) i j _ _ (total_pos i) ((lgB_apply (xL (xIn m d)) (wL (wIn m d) k) (ix2 i j)).trans (h.lgF d k i j)) hb

/-- A result put together from the chunks of the first side and those of the second. -/
theorem Holds.out (h : Holds m X W) (b : FVec Ideal S512x1 .f32) (i : Fin 512) (hb : b (ix2 i (0 : Fin 1)) = ((Real.log (total X W i) : ℝ) : EReal))
    (d d' : Dev nD) (hd : side d = 0) (hd' : side d' = 1) (q : Fin 16384) :
    outOf (chunksL b ((sent m).lg d) ((sent m).lg d')) (ix2 i q) = (soft X W i q : EReal) := by
  have hin : inCol (ix2 i q) = ix2 i (⟨q.val % 1024, Nat.mod_lt _ (by decide)⟩ : Fin 1024) := funext fun a => by
    match a with
    | ⟨0, _⟩ => rfl
    | ⟨1, _⟩ => rfl
  have hq : (colOf (ix2 i q)).val = q.val / 1024 := rfl
  unfold outOf chunksL
  rw [hin]
  split
  · rename_i hlt
    rw [h.oc b i hb, hd]
    refine congrArg (fun p => ((soft X W i p : ℝ) : EReal)) (Fin.ext ?_)
    show 1024 * (8 * 0 + q.val / 1024) + q.val % 1024 = q.val
    omega
  · rename_i hlt
    rw [h.oc b i hb, hd']
    refine congrArg (fun p => ((soft X W i p : ℝ) : EReal)) (Fin.ext ?_)
    show 1024 * (8 * 1 + (q.val / 1024 - 8)) + q.val % 1024 = q.val
    rw [hq] at hlt
    omega

theorem Holds.result (h : Holds m X W) (c : Dev nD) (i : Fin 512) (q : Fin 16384) : outF m c (ix2 i q) = (soft X W i q : EReal) := by
  unfold outF
  rcases side_peer c with ⟨hc, hp⟩ | ⟨hc, hp⟩
  · rw [if_pos ((side_cond c).mpr hc)]
    exact h.out _ i (h.lastB c i) c (peer c) hc hp q
  · rw [if_neg fun e => by rw [(side_cond c).mp e] at hc; exact absurd hc (by decide)]
    exact h.out _ i (h.lastB c i) (peer c) c hp hc q

end Cert.Exchange

end
-- ==== Proof.Plain.lean ====
/-
The reference's result, as real numbers: the same exponential over the same sum.
-/
module

public import proofs.«01_k».proof.Proof.Result
public import proofs.«01_k».proof.Proof.Gen.ReferenceIdeal.Run
public import Idealize.ShloMosaic.Lib.KernelVsHost
public import Idealize.ShloMosaic.Lib.StackMember

@[expose] public section

set_option maxRecDepth 16384

noncomputable section

namespace Cert.Plain

open Cert.ReferenceIdeal Cert.ReferenceIdeal.Gen
open Idealize.ShloMosaic
open Idealize.ShloMosaic.ValueIdx
open Cert.Softmax
open Cert.Exchange (logit total soft)
open scoped BigOperators

variable (A : FVec Ideal S512x1024 .f32) (B : FVec Ideal S1024x16384 .f32)

/-- The logits. -/
def lg : FVec Ideal S512x16384 .f32 := Host.dotGeneral dot_S512x1024_S1024x16384_S512x16384_1_0_0_1_n_n none A B
/-- A row's number at every column. -/
def spread (v : FVec Ideal S512 .f32) : FVec Ideal S512x16384 .f32 :=
  broadcastInDim S512x16384 ![0, 1] bcast_S512x1_S512x16384_0_1 (broadcastInDim S512x1 ![0] bcast_S512_S512x1_0 v)
/-- The row maxima. -/
def top : FVec Ideal S512 .f32 := Host.reduce FloatOps.maximumf (lg A B) (constant S_ .f32 0xFF800000#32) reducesTo_S512x16384_S512_d1 h_S_
/-- The exponentials. -/
def ex : FVec Ideal S512x16384 .f32 := Host.exp (subf (lg A B) (spread (top A B)))
/-- The reference's result. -/
def res : FVec Ideal S512x16384 .f32 :=
  Host.divf (ex A B) (spread (Host.reduceAdd (ex A B) (constant S_ .f32 0x00000000#32) reducesTo_S512x16384_S512_d1 h_S_))

theorem reduces : S512x16384.Reduces [1] S512 := by decide

theorem lift_eq (i : Fin 512) (q : Fin 16384) : reduces.lift (ix1 i) q = ix2 i q := by
  funext a
  match a with
  | ⟨0, _⟩ => rfl
  | ⟨1, _⟩ => rfl

theorem spread_apply (v : FVec Ideal S512 .f32) (i : Fin 512) (q : Fin 16384) : spread v (ix2 i q) = v (ix1 i) := by
  unfold spread
  rw [broadcastInDim_apply _ _ _ (ix2 i q) (ix2 i (0 : Fin 1)) (fun a => by
    match a with
    | ⟨0, _⟩ => rfl
    | ⟨1, _⟩ => rfl)]
  exact broadcastInDim_apply _ _ _ (ix2 i (0 : Fin 1)) (ix1 i) (fun a => by
    match a with
    | ⟨0, _⟩ => rfl)

variable {A B} {X : Fin 512 → Fin 1024 → ℝ} {W : Fin 1024 → Fin 16384 → ℝ}
  (hA : ∀ i d, A (ix2 i d) = (X i d : EReal)) (hB : ∀ d q, B (ix2 d q) = (W d q : EReal))
include hA hB

theorem lg_apply (i : Fin 512) (q : Fin 16384) : lg A B (ix2 i q) = (logit X W i q : EReal) := by
  refine (StackMember.dotGeneral_plain_apply (m := 512) (k := 1024) (n := 16384) (φ₁ := .f32) (φ₂ := .f32) none A B i q : lg A B (ix2 i q) = _).trans ?_
  rw [logit, ← coe_sum]
  refine Finset.sum_congr rfl fun d _ => ?_
  rw [hA, hB, EReal.coe_mul]

theorem top_apply (i : Fin 512) : ∃ M : ℝ, top A B (ix1 i) = (M : EReal) := by
  obtain ⟨M, hM⟩ := fold_max_real (by decide) (logit X W i)
  refine ⟨M, ?_⟩
  rw [← hM]
  unfold top
  rw [hostReduce_maximumf_eq_multiReduction (lg A B) 0xFF800000#32 reducesTo_S512x16384_S512_d1 h_S_ reduces (.inl rfl) rfl]
  refine (Ideal.multiReduction_maximumf_single (lg A B) _ _ _ rfl (ix1 i)).trans ?_
  have hb : (FloatOps.ofBits (F := Ideal) .f32 0xFF800000#32 : EReal) = ⊥ := by
    show Ideal.ofBits .f32 0xFF800000#32 = ⊥
    simp [Ideal.ofBits, Ideal.ieee]
  have hv : (lg A B ∘ reduces.lift (ix1 i)) = fun q : Fin 16384 => (logit X W i q : EReal) :=
    funext fun q => (congrArg (lg A B) (lift_eq i q)).trans (lg_apply hA hB i q)
  exact congrArg₂ (fun a g => Finset.fold max a g (Finset.univ : Finset (Fin 16384))) hb hv

theorem res_apply (i : Fin 512) (q : Fin 16384) : res A B (ix2 i q) = (soft X W i q : EReal) := by
  obtain ⟨M, hM⟩ := top_apply hA hB i
  have he : ∀ q, ex A B (ix2 i q) = Ideal.exp ((logit X W i q : EReal) - (M : EReal)) := fun q => by
    show Ideal.exp (lg A B (ix2 i q) - spread (top A B) (ix2 i q)) = _
    rw [lg_apply hA hB, spread_apply, hM]
  have h0 : Ideal.ofBits .f32 0x00000000#32 = 0 := by simp [Ideal.ofBits, Ideal.ieee]
  have hs : Host.reduceAdd (ex A B) (constant S_ .f32 0x00000000#32) reducesTo_S512x16384_S512_d1 h_S_ (ix1 i)
      = ∑ q, Ideal.exp ((logit X W i q : EReal) - (M : EReal)) := by
    refine (Ideal.hostReduceAdd_single reducesTo_S512x16384_S512_d1 reduces (ex A B) (Ideal.ofBits .f32 0x00000000#32) (ix1 i)
      : Host.reduceAdd (ex A B) (constant S_ .f32 0x00000000#32) reducesTo_S512x16384_S512_d1 h_S_ (ix1 i) = _).trans ?_
    rw [h0, zero_add]
    exact Finset.sum_congr rfl fun k _ => (congrArg (ex A B) (lift_eq i k)).trans (he k)
  unfold res
  rw [hostDivf_apply, he, spread_apply, hs]
  exact plain_eq (logit X W i) M q

end Cert.Plain

end
-- ==== Proof.Agree.lean ====
/-
The kernel and the reference end with the same array, from finite inputs.
-/
module

public import proofs.«01_k».proof.Defs
public import proofs.«01_k».proof.Proof.Plain
public import proofs.«01_k».proof.Proof.Frames

@[expose] public section

set_option maxRecDepth 16384

noncomputable section

namespace Cert.Exchange

open Idealize.ShloMosaic
open Idealize.ShloMosaic.ValueIdx
open Idealize.SL.Sem

/-! ## What the precondition says -/

theorem facts_pre : Cert.Pre_finite_KernelIdeal.Facts := ⟨by decide, by decide⟩
theorem facts_pre_ref : Cert.Pre_finite_ReferenceIdeal.Facts := ⟨by decide, by decide⟩

/-- A number whose magnitude is below infinity is a real. -/
theorem real_of_finite (x : Ideal .f32)
    (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine (EReal.coe_toReal ?_ ?_).symm <;> intro e <;> rw [e] at h' <;> simp [Ideal.cmp] at h'

section
open Cert.KernelIdeal

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's inputs. -/
def refX : FVec Ideal Cert.ReferenceIdeal.S512x1024 .f32 := m' (((0 : Dev Cert.ReferenceIdeal.nD).tc : Thread Cert.ReferenceIdeal.nD Cert.ReferenceIdeal.τ).loc Cert.ReferenceIdeal.main_arg0)
def refW : FVec Ideal Cert.ReferenceIdeal.S1024x16384 .f32 := m' (((0 : Dev Cert.ReferenceIdeal.nD).tc : Thread Cert.ReferenceIdeal.nD Cert.ReferenceIdeal.τ).loc Cert.ReferenceIdeal.main_arg1)
/-- Their entries as reals. -/
def realX (i : Fin 512) (d : Fin 1024) : ℝ := EReal.toReal (refX m' (ix2 i d))
def realW (d : Fin 1024) (q : Fin 16384) : ℝ := EReal.toReal (refW m' (ix2 d q))

/-- The devices hold the reference's inputs: the first whole, of the second a half of the columns each. -/
def Placed : Prop := ∀ c : Dev nD,
  m (c.tc.loc main_arg0) = refX m'
  ∧ m (c.tc.loc main_arg1) = Layout.blockN ⟨2, ![1024, 8192]⟩ ⟨2, ![1024, 16384]⟩ (Layout.meshBlock [2, 2, 2] ![[], [1]] c) (refW m')

variable {m m'}

theorem Placed.w (h : Placed m m') (c : Dev nD) (d : Fin 1024) (k : Fin 8) (j : Fin 1024) :
    m (c.tc.loc main_arg1) (ix2 d (⟨1024 * k.val + j.val, wcol_lt k j⟩ : Fin 8192)) = refW m' (ix2 d (at16 (of8 (side c) k) j)) := by
  have e : Layout.meshLin [2, 2, 2] c.val [1] = (side c).val := by revert c; decide
  rw [(h c).2, Layout.blockN_apply]
  refine congrArg (refW m') (funext fun a => Fin.ext ?_)
  match a with
  | ⟨0, _⟩ =>
    show Layout.meshLin [2, 2, 2] c.val [] * 1024 + d.val = d.val
    show 0 * 1024 + d.val = d.val
    omega
  | ⟨1, _⟩ =>
    show Layout.meshLin [2, 2, 2] c.val [1] * 8192 + (1024 * k.val + j.val) = 1024 * (8 * (side c).val + k.val) + j.val
    rw [e]
    omega

/-- A device of either side. -/
def devOf (s : Fin 2) : Dev nD := ⟨2 * s.val, by have := s.isLt; simp only [nD]; omega⟩
theorem side_devOf (s : Fin 2) : side (devOf s) = s := by revert s; decide

theorem col_split (q : Fin 16384) : ∃ (s : Fin 2) (k : Fin 8) (j : Fin 1024), q = at16 (of8 s k) j :=
  ⟨⟨q.val / 8192, by omega⟩, ⟨q.val / 1024 % 8, by omega⟩, ⟨q.val % 1024, by omega⟩, Fin.ext (by
    show q.val = 1024 * (8 * (q.val / 8192) + q.val / 1024 % 8) + q.val % 1024
    omega)⟩

variable (hp : @Cert.Pre_KernelIdeal_finite_KernelIdeal facts_pre m) (h : Placed m m')
include hp h

theorem refX_real (i : Fin 512) (d : Fin 1024) : refX m' (ix2 i d) = (realX m' i d : EReal) := by
  have e := congrFun (hp (0 : Dev nD)).1 (ix2 i d)
  rw [(h 0).1] at e
  exact real_of_finite _ e

theorem refW_real (d : Fin 1024) (q : Fin 16384) : refW m' (ix2 d q) = (realW m' d q : EReal) := by
  obtain ⟨s, k, j, rfl⟩ := col_split q
  have e := congrFun (hp (devOf s)).2 (ix2 d (⟨1024 * k.val + j.val, wcol_lt k j⟩ : Fin 8192))
  have e' := real_of_finite _ e
  rw [h.w (devOf s) d k j, side_devOf] at e'
  exact e'

theorem Placed.holds : Holds m (realX m') (realW m') where
  x c i d := by rw [(h c).1]; exact refX_real hp h i d
  w c d k j := by rw [h.w c d k j]; exact refW_real hp h d _

theorem result_eq (c : Dev nD) : outF m c = Cert.Plain.res (refX m') (refW m') := by
  funext y
  rw [eq_ix2 y]
  exact ((h.holds hp).result c _ _).trans (Cert.Plain.res_apply (refX_real hp h) (refW_real hp h) _ _).symm

end

theorem agree : @Cert.algebraic_KernelIdeal_ReferenceIdeal_pre_finite_KernelIdeal Cert.KernelIdeal.Gen.facts Cert.ReferenceIdeal.Gen.facts facts_pre := by
  intro m g m' g' hp h
  refine ⟨Cert.Plain.res (refX m') (refW m'), ?_, ?_⟩
  · exact (θ_run _ _ _).mono (fun _ hr c => ⟨((hr.1 c).2.2).trans (result_eq hp h c), (hr.1 c).1, (hr.1 c).2.1⟩) (run_main (F := Ideal) m g)
  · exact (θ_run _ _ _).mono (fun _ hr => hr 0) (Cert.ReferenceIdeal.Value.run (F := Ideal) m' g')

theorem frame_ideal_pre : @Cert.quiescent_KernelIdeal_pre_finite_KernelIdeal Cert.KernelIdeal.Gen.facts facts_pre :=
  fun m g _ => frame_ideal m g trivial
theorem frame_reference_pre : @Cert.quiescent_ReferenceIdeal_pre_finite_ReferenceIdeal Cert.ReferenceIdeal.Gen.facts facts_pre_ref :=
  fun m g _ => frame_reference m g trivial

end Cert.Exchange

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree

@[expose] public section

noncomputable section

namespace Cert.Proof

theorem claim : Cert.Claim := ⟨Cert.Kernel.Gen.facts, Cert.KernelIdeal.Gen.facts, Cert.ReferenceIdeal.Gen.facts,
  Cert.Exchange.facts_pre, Cert.Exchange.facts_pre_ref,
  Cert.Exchange.frame_kernel, Cert.Exchange.frame_ideal, Cert.Exchange.frame_ideal_pre, Cert.Exchange.frame_reference,
  Cert.Exchange.frame_reference_pre, trivial, Cert.Exchange.agree⟩

end Cert.Proof

end
